-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x1024 : Shape := ⟨2, ![8192, 1024]⟩
abbrev S4096x1024 : Shape := ⟨2, ![4096, 1024]⟩
abbrev S4x256x1024 : Shape := ⟨3, ![4, 256, 1024]⟩
abbrev S6x256x1024 : Shape := ⟨3, ![6, 256, 1024]⟩
abbrev S4 : Shape := ⟨1, ![4]⟩
abbrev S6 : Shape := ⟨1, ![6]⟩
abbrev S16 : Shape := ⟨1, ![16]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 2
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .bf16⟩
  | .local _ .vmem, ⟨0, _⟩ => ⟨S8192x1024, .bf16⟩
  | .local _ .vmem, ⟨1, _⟩ => ⟨S4096x1024, .bf16⟩
  | .local _ .vmem, ⟨2, _⟩ => ⟨S4x256x1024, .f32⟩
  | .local _ .vmem, ⟨3, _⟩ => ⟨S6x256x1024, .f32⟩
  | .local _ .vmem, ⟨4, _⟩ => ⟨S4x256x1024, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v13 : BitVec 32 := Scalar.muli v2 c2_i32_7
  let v14 : BitVec 32 := Scalar.addi c0_i32 v13
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v15 : BitVec 32 := Scalar.muli v6 c1_i32_8
  let v16 : BitVec 32 := Scalar.addi v14 v15
  v16.toNat
def k0_dev2 (d0 : Dev nD) : Nat :=
  let c0_i32_11 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_10 : BitVec 32 := 2#32
  let v17 : BitVec 32 := Scalar.muli v7 c2_i32_10
  let v18 : BitVec 32 := Scalar.addi c0_i32_11 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v19 : BitVec 32 := Scalar.muli v5 c1_i32_12
  let v20 : BitVec 32 := Scalar.addi v18 v19
  v20.toNat
def k0_off1 (d0 : Dev nD) (c0_i32_14 : BitVec 32) : Fin 3 → Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.muli v2 c4096_i32
  let v21 : BitVec 32 := Scalar.addi v10 c0_i32_14
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1024_i32 : BitVec 32 := 1024#32
  let v8 : BitVec 32 := Scalar.muli v6 c1024_i32
  ![0, v21.toNat, v8.toNat]
def k0_off2 (d0 : Dev nD) (c0_i32_49 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.muli v2 c4096_i32
  let v79 : BitVec 32 := Scalar.addi v10 c0_i32_49
  let c0_i32_55 : BitVec 32 := 0#32
  ![v79.toNat, 0]
def k0_dev3 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_52 : BitVec 32 := 2#32
  let v80 : BitVec 32 := Scalar.muli v2 c2_i32_52
  let v81 : BitVec 32 := Scalar.addi c0_i32_53 v80
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_54 : BitVec 32 := 1#32
  let v82 : BitVec 32 := Scalar.muli v6 c1_i32_54
  let v83 : BitVec 32 := Scalar.addi v81 v82
  v83.toNat
def k0_dev4 (d0 : Dev nD) : Nat :=
  let c0_i32_75 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_74 : BitVec 32 := 2#32
  let v109 : BitVec 32 := Scalar.muli v2 c2_i32_74
  let v110 : BitVec 32 := Scalar.addi c0_i32_75 v109
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_76 : BitVec 32 := 1#32
  let v111 : BitVec 32 := Scalar.muli v6 c1_i32_76
  let v112 : BitVec 32 := Scalar.addi v110 v111
  v112.toNat
def k0_dev5 (d0 : Dev nD) : Nat :=
  let c0_i32_97 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_96 : BitVec 32 := 2#32
  let v138 : BitVec 32 := Scalar.muli v2 c2_i32_96
  let v139 : BitVec 32 := Scalar.addi c0_i32_97 v138
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_98 : BitVec 32 := 1#32
  let v140 : BitVec 32 := Scalar.muli v6 c1_i32_98
  let v141 : BitVec 32 := Scalar.addi v139 v140
  v141.toNat
def k0_dev6 (d0 : Dev nD) : Nat :=
  let c0_i32_119 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_118 : BitVec 32 := 2#32
  let v167 : BitVec 32 := Scalar.muli v2 c2_i32_118
  let v168 : BitVec 32 := Scalar.addi c0_i32_119 v167
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_120 : BitVec 32 := 1#32
  let v169 : BitVec 32 := Scalar.muli v6 c1_i32_120
  let v170 : BitVec 32 := Scalar.addi v168 v169
  v170.toNat
def k0_dev7 (d0 : Dev nD) : Nat :=
  let c0_i32_141 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_140 : BitVec 32 := 2#32
  let v196 : BitVec 32 := Scalar.muli v2 c2_i32_140
  let v197 : BitVec 32 := Scalar.addi c0_i32_141 v196
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_142 : BitVec 32 := 1#32
  let v198 : BitVec 32 := Scalar.muli v6 c1_i32_142
  let v199 : BitVec 32 := Scalar.addi v197 v198
  v199.toNat
def k0_dev8 (d0 : Dev nD) : Nat :=
  let c0_i32_163 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_162 : BitVec 32 := 2#32
  let v225 : BitVec 32 := Scalar.muli v2 c2_i32_162
  let v226 : BitVec 32 := Scalar.addi c0_i32_163 v225
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_164 : BitVec 32 := 1#32
  let v227 : BitVec 32 := Scalar.muli v6 c1_i32_164
  let v228 : BitVec 32 := Scalar.addi v226 v227
  v228.toNat
def k0_dev9 (d0 : Dev nD) : Nat :=
  let c0_i32_185 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_184 : BitVec 32 := 2#32
  let v254 : BitVec 32 := Scalar.muli v2 c2_i32_184
  let v255 : BitVec 32 := Scalar.addi c0_i32_185 v254
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_186 : BitVec 32 := 1#32
  let v256 : BitVec 32 := Scalar.muli v6 c1_i32_186
  let v257 : BitVec 32 := Scalar.addi v255 v256
  v257.toNat
def k0_dev10 (d0 : Dev nD) : Nat :=
  let c0_i32_207 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_206 : BitVec 32 := 2#32
  let v283 : BitVec 32 := Scalar.muli v2 c2_i32_206
  let v284 : BitVec 32 := Scalar.addi c0_i32_207 v283
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_208 : BitVec 32 := 1#32
  let v285 : BitVec 32 := Scalar.muli v6 c1_i32_208
  let v286 : BitVec 32 := Scalar.addi v284 v285
  v286.toNat
def k0_dev11 (d0 : Dev nD) : Nat :=
  let c0_i32_229 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_228 : BitVec 32 := 2#32
  let v312 : BitVec 32 := Scalar.muli v2 c2_i32_228
  let v313 : BitVec 32 := Scalar.addi c0_i32_229 v312
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_230 : BitVec 32 := 1#32
  let v314 : BitVec 32 := Scalar.muli v6 c1_i32_230
  let v315 : BitVec 32 := Scalar.addi v313 v314
  v315.toNat
def k0_dev12 (d0 : Dev nD) : Nat :=
  let c0_i32_251 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_250 : BitVec 32 := 2#32
  let v341 : BitVec 32 := Scalar.muli v2 c2_i32_250
  let v342 : BitVec 32 := Scalar.addi c0_i32_251 v341
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_252 : BitVec 32 := 1#32
  let v343 : BitVec 32 := Scalar.muli v6 c1_i32_252
  let v344 : BitVec 32 := Scalar.addi v342 v343
  v344.toNat
def k0_dev13 (d0 : Dev nD) : Nat :=
  let c0_i32_273 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_272 : BitVec 32 := 2#32
  let v370 : BitVec 32 := Scalar.muli v2 c2_i32_272
  let v371 : BitVec 32 := Scalar.addi c0_i32_273 v370
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_274 : BitVec 32 := 1#32
  let v372 : BitVec 32 := Scalar.muli v6 c1_i32_274
  let v373 : BitVec 32 := Scalar.addi v371 v372
  v373.toNat
def k0_dev14 (d0 : Dev nD) : Nat :=
  let c0_i32_295 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_294 : BitVec 32 := 2#32
  let v399 : BitVec 32 := Scalar.muli v2 c2_i32_294
  let v400 : BitVec 32 := Scalar.addi c0_i32_295 v399
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_296 : BitVec 32 := 1#32
  let v401 : BitVec 32 := Scalar.muli v6 c1_i32_296
  let v402 : BitVec 32 := Scalar.addi v400 v401
  v402.toNat
def k0_dev15 (d0 : Dev nD) : Nat :=
  let c0_i32_312 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_311 : BitVec 32 := 2#32
  let v422 : BitVec 32 := Scalar.muli v2 c2_i32_311
  let v423 : BitVec 32 := Scalar.addi c0_i32_312 v422
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_313 : BitVec 32 := 1#32
  let v424 : BitVec 32 := Scalar.muli v6 c1_i32_313
  let v425 : BitVec 32 := Scalar.addi v423 v424
  v425.toNat
def k0_dev16 (d0 : Dev nD) : Nat :=
  let c0_i32_329 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_328 : BitVec 32 := 2#32
  let v445 : BitVec 32 := Scalar.muli v2 c2_i32_328
  let v446 : BitVec 32 := Scalar.addi c0_i32_329 v445
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_330 : BitVec 32 := 1#32
  let v447 : BitVec 32 := Scalar.muli v6 c1_i32_330
  let v448 : BitVec 32 := Scalar.addi v446 v447
  v448.toNat
def k0_dev17 (d0 : Dev nD) : Nat :=
  let c0_i32_346 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_345 : BitVec 32 := 2#32
  let v468 : BitVec 32 := Scalar.muli v2 c2_i32_345
  let v469 : BitVec 32 := Scalar.addi c0_i32_346 v468
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_347 : BitVec 32 := 1#32
  let v470 : BitVec 32 := Scalar.muli v6 c1_i32_347
  let v471 : BitVec 32 := Scalar.addi v469 v470
  v471.toNat
def k0_dev18 (d0 : Dev nD) : Nat :=
  let c0_i32_363 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_362 : BitVec 32 := 2#32
  let v491 : BitVec 32 := Scalar.muli v2 c2_i32_362
  let v492 : BitVec 32 := Scalar.addi c0_i32_363 v491
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_364 : BitVec 32 := 1#32
  let v493 : BitVec 32 := Scalar.muli v6 c1_i32_364
  let v494 : BitVec 32 := Scalar.addi v492 v493
  v494.toNat
def k0_off3 (d0 : Dev nD) (c0_i32_368 : BitVec 32) : Fin 3 → Nat :=
  let c0_i32_400 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.muli v2 c4096_i32
  let v501 : BitVec 32 := Scalar.addi v10 c0_i32_368
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_4 : BitVec 32 := 1024#32
  let v9 : BitVec 32 := Scalar.muli v5 c1024_i32_4
  ![0, v501.toNat, v9.toNat]
def k0_dev19 (d0 : Dev nD) : Nat :=
  let c0_i32_442 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_441 : BitVec 32 := 2#32
  let v578 : BitVec 32 := Scalar.muli v7 c2_i32_441
  let v579 : BitVec 32 := Scalar.addi c0_i32_442 v578
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_443 : BitVec 32 := 1#32
  let v580 : BitVec 32 := Scalar.muli v5 c1_i32_443
  let v581 : BitVec 32 := Scalar.addi v579 v580
  v581.toNat
def k0_off4 (d0 : Dev nD) (c0_i32_430 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.muli v2 c4096_i32
  let v569 : BitVec 32 := Scalar.addi v10 c0_i32_430
  let v596 : Index := Scalar.indexCast v569
  let c0_454 : Index := 0#32
  ![v596.toNat, 0]
def k0_dev20 (d0 : Dev nD) : Nat :=
  let c0_i32_480 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_479 : BitVec 32 := 2#32
  let v624 : BitVec 32 := Scalar.muli v7 c2_i32_479
  let v625 : BitVec 32 := Scalar.addi c0_i32_480 v624
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_481 : BitVec 32 := 1#32
  let v626 : BitVec 32 := Scalar.muli v5 c1_i32_481
  let v627 : BitVec 32 := Scalar.addi v625 v626
  v627.toNat
def k0_dev21 (d0 : Dev nD) : Nat :=
  let c0_i32_518 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_517 : BitVec 32 := 2#32
  let v670 : BitVec 32 := Scalar.muli v7 c2_i32_517
  let v671 : BitVec 32 := Scalar.addi c0_i32_518 v670
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_519 : BitVec 32 := 1#32
  let v672 : BitVec 32 := Scalar.muli v5 c1_i32_519
  let v673 : BitVec 32 := Scalar.addi v671 v672
  v673.toNat
def k0_dev22 (d0 : Dev nD) : Nat :=
  let c0_i32_556 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_555 : BitVec 32 := 2#32
  let v716 : BitVec 32 := Scalar.muli v7 c2_i32_555
  let v717 : BitVec 32 := Scalar.addi c0_i32_556 v716
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_557 : BitVec 32 := 1#32
  let v718 : BitVec 32 := Scalar.muli v5 c1_i32_557
  let v719 : BitVec 32 := Scalar.addi v717 v718
  v719.toNat
def k0_dev23 (d0 : Dev nD) : Nat :=
  let c0_i32_594 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_593 : BitVec 32 := 2#32
  let v762 : BitVec 32 := Scalar.muli v7 c2_i32_593
  let v763 : BitVec 32 := Scalar.addi c0_i32_594 v762
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_595 : BitVec 32 := 1#32
  let v764 : BitVec 32 := Scalar.muli v5 c1_i32_595
  let v765 : BitVec 32 := Scalar.addi v763 v764
  v765.toNat
def k0_dev24 (d0 : Dev nD) : Nat :=
  let c0_i32_636 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_635 : BitVec 32 := 2#32
  let v813 : BitVec 32 := Scalar.muli v7 c2_i32_635
  let v814 : BitVec 32 := Scalar.addi c0_i32_636 v813
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_637 : BitVec 32 := 1#32
  let v815 : BitVec 32 := Scalar.muli v5 c1_i32_637
  let v816 : BitVec 32 := Scalar.addi v814 v815
  v816.toNat
def k0_dev25 (d0 : Dev nD) : Nat :=
  let c0_i32_678 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_677 : BitVec 32 := 2#32
  let v864 : BitVec 32 := Scalar.muli v7 c2_i32_677
  let v865 : BitVec 32 := Scalar.addi c0_i32_678 v864
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_679 : BitVec 32 := 1#32
  let v866 : BitVec 32 := Scalar.muli v5 c1_i32_679
  let v867 : BitVec 32 := Scalar.addi v865 v866
  v867.toNat
def k0_dev26 (d0 : Dev nD) : Nat :=
  let c0_i32_721 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_720 : BitVec 32 := 2#32
  let v915 : BitVec 32 := Scalar.muli v7 c2_i32_720
  let v916 : BitVec 32 := Scalar.addi c0_i32_721 v915
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_722 : BitVec 32 := 1#32
  let v917 : BitVec 32 := Scalar.muli v5 c1_i32_722
  let v918 : BitVec 32 := Scalar.addi v916 v917
  v918.toNat
def k0_dev27 (d0 : Dev nD) : Nat :=
  let c0_i32_764 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_763 : BitVec 32 := 2#32
  let v966 : BitVec 32 := Scalar.muli v7 c2_i32_763
  let v967 : BitVec 32 := Scalar.addi c0_i32_764 v966
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_765 : BitVec 32 := 1#32
  let v968 : BitVec 32 := Scalar.muli v5 c1_i32_765
  let v969 : BitVec 32 := Scalar.addi v967 v968
  v969.toNat
def k0_dev28 (d0 : Dev nD) : Nat :=
  let c0_i32_807 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_806 : BitVec 32 := 2#32
  let v1017 : BitVec 32 := Scalar.muli v7 c2_i32_806
  let v1018 : BitVec 32 := Scalar.addi c0_i32_807 v1017
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_808 : BitVec 32 := 1#32
  let v1019 : BitVec 32 := Scalar.muli v5 c1_i32_808
  let v1020 : BitVec 32 := Scalar.addi v1018 v1019
  v1020.toNat
def k0_dev29 (d0 : Dev nD) : Nat :=
  let c0_i32_850 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_849 : BitVec 32 := 2#32
  let v1068 : BitVec 32 := Scalar.muli v7 c2_i32_849
  let v1069 : BitVec 32 := Scalar.addi c0_i32_850 v1068
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_851 : BitVec 32 := 1#32
  let v1070 : BitVec 32 := Scalar.muli v5 c1_i32_851
  let v1071 : BitVec 32 := Scalar.addi v1069 v1070
  v1071.toNat
def k0_off5 (d0 : Dev nD) (c0_i32_384 : BitVec 32) : Fin 3 → Nat :=
  let c0_i32_876 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c4096_i32_5 : BitVec 32 := 4096#32
  let v11 : BitVec 32 := Scalar.muli v7 c4096_i32_5
  let v517 : BitVec 32 := Scalar.addi v11 c0_i32_384
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_4 : BitVec 32 := 1024#32
  let v9 : BitVec 32 := Scalar.muli v5 c1024_i32_4
  ![0, v517.toNat, v9.toNat]
def k0_dev30 (d0 : Dev nD) : Nat :=
  let c0_i32_893 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_892 : BitVec 32 := 2#32
  let v1119 : BitVec 32 := Scalar.muli v7 c2_i32_892
  let v1120 : BitVec 32 := Scalar.addi c0_i32_893 v1119
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_894 : BitVec 32 := 1#32
  let v1121 : BitVec 32 := Scalar.muli v5 c1_i32_894
  let v1122 : BitVec 32 := Scalar.addi v1120 v1121
  v1122.toNat
def k0_dev31 (d0 : Dev nD) : Nat :=
  let c0_i32_936 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_935 : BitVec 32 := 2#32
  let v1170 : BitVec 32 := Scalar.muli v7 c2_i32_935
  let v1171 : BitVec 32 := Scalar.addi c0_i32_936 v1170
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_937 : BitVec 32 := 1#32
  let v1172 : BitVec 32 := Scalar.muli v5 c1_i32_937
  let v1173 : BitVec 32 := Scalar.addi v1171 v1172
  v1173.toNat
def k0_dev32 (d0 : Dev nD) : Nat :=
  let c0_i32_979 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_978 : BitVec 32 := 2#32
  let v1221 : BitVec 32 := Scalar.muli v7 c2_i32_978
  let v1222 : BitVec 32 := Scalar.addi c0_i32_979 v1221
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_980 : BitVec 32 := 1#32
  let v1223 : BitVec 32 := Scalar.muli v5 c1_i32_980
  let v1224 : BitVec 32 := Scalar.addi v1222 v1223
  v1224.toNat
def k0_dev33 (d0 : Dev nD) : Nat :=
  let c0_i32_1022 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1021 : BitVec 32 := 2#32
  let v1272 : BitVec 32 := Scalar.muli v7 c2_i32_1021
  let v1273 : BitVec 32 := Scalar.addi c0_i32_1022 v1272
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1023 : BitVec 32 := 1#32
  let v1274 : BitVec 32 := Scalar.muli v5 c1_i32_1023
  let v1275 : BitVec 32 := Scalar.addi v1273 v1274
  v1275.toNat
def k0_dev34 (d0 : Dev nD) : Nat :=
  let c0_i32_1065 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1064 : BitVec 32 := 2#32
  let v1323 : BitVec 32 := Scalar.muli v7 c2_i32_1064
  let v1324 : BitVec 32 := Scalar.addi c0_i32_1065 v1323
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1066 : BitVec 32 := 1#32
  let v1325 : BitVec 32 := Scalar.muli v5 c1_i32_1066
  let v1326 : BitVec 32 := Scalar.addi v1324 v1325
  v1326.toNat
def k0_off6 (d0 : Dev nD) (c0_i32_1103 : BitVec 32) : Fin 2 → Nat :=
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c4096_i32_5 : BitVec 32 := 4096#32
  let v11 : BitVec 32 := Scalar.muli v7 c4096_i32_5
  let v1373 : BitVec 32 := Scalar.addi v11 c0_i32_1103
  let v1382 : Index := Scalar.indexCast v1373
  let c0_1112 : Index := 0#32
  ![v1382.toNat, 0]
def k0_off7 (d0 : Dev nD) (c0_i32_1103 : BitVec 32) : Fin 2 → Nat :=
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c4096_i32_5 : BitVec 32 := 4096#32
  let v11 : BitVec 32 := Scalar.muli v7 c4096_i32_5
  let v1373 : BitVec 32 := Scalar.addi v11 c0_i32_1103
  let c0_i32_1123 : BitVec 32 := 0#32
  ![v1373.toNat, 0]
-- ==== ReferenceIdeal.lean ====
abbrev S2x8192x2048 : Shape := ⟨3, ![2, 8192, 2048]⟩
abbrev S_ : Shape := ⟨0, ![]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S_, .f32⟩
  | .hbm, ⟨2, _⟩ => ⟨S8192x2048, .f32⟩
  | .hbm, ⟨3, _⟩ => ⟨S8192x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/-
  The kernel body as loops over chunks.

  A device's work is cut into 32 chunks of 256 rows by 1024 columns: chunks 0..15 are the rows of the device's own
  half, chunks 16..31 the rows of the other half. `body` writes the printed body as loops over the chunk numbers, over a
  record `Offs` of the offsets and devices it reads; `bodyAt0_eq` says the printed body is it at the printed offsets.
-/
module

public import proofs.«01_k».proof.Proof.Gen.KernelIdeal.Skeleton
public import proofs.«01_k».proof.Proof.Gen.KernelIdeal.Points
public import Idealize.ShloMosaic.Lib.Pipeline.Regions

@[expose] public section

set_option maxRecDepth 65536

noncomputable section

namespace Cert.Proof

open Idealize.ShloMosaic Idealize.ShloMosaic.TcCoe
open Idealize.SL.Sem
open Cert.KernelIdeal Cert.KernelIdeal.Gen

variable {F : FTy → Type} [FloatOps F]

/-- The programs of one TensorCore of this kernel. -/
abbrev TProg (F : FTy → Type) [FloatOps F] : Type 1 := Prog (TpuEff nD τ sig (Elt F) Λ₀ .tc) PUnit

/-! ## The buffers -/

abbrev xM : Memref sig .tc .hbm S1x8192x2048 .f32 := Memref.whole main_arg0
abbrev outM : Memref sig .tc .hbm S8192x1024 .bf16 := Memref.whole main_v1
abbrev recvM : Memref sig .tc .vmem S8192x1024 .bf16 := Memref.whole cc0_scratch0
abbrev sendM : Memref sig .tc .vmem S4096x1024 .bf16 := Memref.whole cc0_scratch1
abbrev stageM : Memref sig .tc .vmem S4x256x1024 .f32 := Memref.whole cc0_scratch2
abbrev localM : Memref sig .tc .vmem S6x256x1024 .f32 := Memref.whole cc0_scratch3
abbrev resM : Memref sig .tc .vmem S4x256x1024 .bf16 := Memref.whole cc0_scratch4

/-- The DMA semaphore of number `q` (below 78: 4 for staging, 6 for local loads, 4 for results, then 16 each for sending
    and receiving along y and along x). -/
def dsem (q : ℕ) : DmaSem sig := ⟨q % 78, Nat.mod_lt _ (by decide)⟩

/-- The barrier semaphore. -/
abbrev barS : Sem sig := (SemArray.scalar (d := S_.size) (sig.barrier 0 rfl)).sem

/-! ## The offsets -/

/-- What the body reads of the device it runs on: where its chunks lie, and its two peers. -/
structure Offs where
  /-- where chunk `j` to be sent lies in the argument -/
  xs : ℕ → Fin 3 → ℕ
  xs_inb : ∀ j a, xs j a + S1x256x1024.size a ≤ S1x8192x2048.size a
  /-- where the local part of chunk `k` lies in the argument -/
  xl : ℕ → Fin 3 → ℕ
  xl_inb : ∀ k a, xl k a + S1x256x1024.size a ≤ S1x8192x2048.size a
  /-- where chunk `k` lies in the receive buffer and in the result -/
  row : ℕ → Fin 2 → ℕ
  row_inb : ∀ k a, row k a + S256x1024.size a ≤ S8192x1024.size a
  row_words : ∀ k, (Rect.unit (s := S8192x1024) (row k) S256x1024.size (row_inb k)).WholeWords (EltTy.packing .bf16)
  /-- where received chunk `k` is loaded from -/
  rowL : ℕ → Fin 2 → ℕ
  rowL_inb : ∀ k a, rowL k a + S256x1024.size a ≤ S8192x1024.size a
  /-- the peer along y and along x, as signalled -/
  sy : Dev nD
  sx : Dev nD
  /-- the peer along y and along x, as copied to -/
  dy : Dev nD
  dx : Dev nD

/-- A chunk's number within its half. -/
def i16 (k : ℕ) : Fin 16 := ⟨k % 16, Nat.mod_lt _ (by decide)⟩

/-- The row of chunk `k` within its half, as a machine word. -/
abbrev w32 (k : ℕ) : BitVec 32 := BitVec.ofNat 32 (256 * (i16 k).val)

def xlOff (d : Dev nD) (k : ℕ) : Fin 3 → ℕ := if k < 16 then k0_off3 d (w32 k) else k0_off5 d (w32 k)
def rowOff (d : Dev nD) (k : ℕ) : Fin 2 → ℕ := if k < 16 then k0_off2 d (w32 k) else k0_off7 d (w32 k)
def rowLOff (d : Dev nD) (k : ℕ) : Fin 2 → ℕ := if k < 16 then k0_off4 d (w32 k) else k0_off6 d (w32 k)

theorem xlOff_inb (d : Dev nD) (k : ℕ) : ∀ a, xlOff d k a + S1x256x1024.size a ≤ S1x8192x2048.size a := by
  unfold xlOff; by_cases h : k < 16
  · rw [if_pos h]; exact k0_off3_inb d (i16 k)
  · rw [if_neg h]; exact k0_off5_inb d (i16 k)

theorem rowOff_inb (d : Dev nD) (k : ℕ) : ∀ a, rowOff d k a + S256x1024.size a ≤ S8192x1024.size a := by
  unfold rowOff; by_cases h : k < 16
  · rw [if_pos h]; exact k0_off2_inb d (i16 k)
  · rw [if_neg h]; exact k0_off7_inb d (i16 k)

theorem rowLOff_inb (d : Dev nD) (k : ℕ) : ∀ a, rowLOff d k a + S256x1024.size a ≤ S8192x1024.size a := by
  unfold rowLOff; by_cases h : k < 16
  · rw [if_pos h]; exact k0_off4_inb d (i16 k)
  · rw [if_neg h]; exact k0_off6_inb d (i16 k)

/-- Being of whole words depends on the offset alone. -/
theorem words_congr {s : Shape} {o o' : Fin s.rank → ℕ} {z : Fin s.rank → ℕ} (e : o = o') (h : ∀ a, o a + z a ≤ s.size a)
    (h' : ∀ a, o' a + z a ≤ s.size a) {n : ℕ} (hw : (Rect.unit (s := s) o z h).WholeWords n) :
    (Rect.unit (s := s) o' z h').WholeWords n := by
  subst e; exact hw

theorem rowOff_words (d : Dev nD) (k : ℕ) :
    (Rect.unit (s := S8192x1024) (rowOff d k) S256x1024.size (rowOff_inb d k)).WholeWords (EltTy.packing .bf16) := by
  by_cases h : k < 16
  · exact words_congr (by unfold rowOff; rw [if_pos h]) _ _ (k0_off2_wordsbf16 d (i16 k))
  · exact words_congr (by unfold rowOff; rw [if_neg h]) _ _ (k0_off7_wordsbf16 d (i16 k))

/-- The offsets as printed. -/
def genOffs (d : Dev nD) : Offs where
  xs j := k0_off1 d (w32 j)
  xs_inb j := k0_off1_inb d (i16 j)
  xl := xlOff d
  xl_inb := xlOff_inb d
  row := rowOff d
  row_inb := rowOff_inb d
  row_words := rowOff_words d
  rowL := rowLOff d
  rowL_inb := rowLOff_inb d
  sy := ⟨k0_dev1 d, k0_dev1_lt d⟩
  sx := ⟨k0_dev2 d, k0_dev2_lt d⟩
  dy := ⟨k0_dev3 d, k0_dev3_lt d⟩
  dx := ⟨k0_dev19 d, k0_dev19_lt d⟩

/-! ## The chunks -/

theorem stage_inb (j : ℕ) : ∀ a, (![j % 4, 0, 0] : Fin 3 → ℕ) a + S1x256x1024.size a ≤ S4x256x1024.size a := by
  have := Nat.mod_lt j (show 0 < 4 by decide)
  intro a; fin_cases a <;> simp [Shape.size, S1x256x1024, S4x256x1024] <;> omega

theorem local_inb (k : ℕ) : ∀ a, (![k % 6, 0, 0] : Fin 3 → ℕ) a + S1x256x1024.size a ≤ S6x256x1024.size a := by
  have := Nat.mod_lt k (show 0 < 6 by decide)
  intro a; fin_cases a <;> simp [Shape.size, S1x256x1024, S6x256x1024] <;> omega

theorem send_inb (j : ℕ) : ∀ a, (![256 * (j % 16), 0] : Fin 2 → ℕ) a + S256x1024.size a ≤ S4096x1024.size a := by
  have := Nat.mod_lt j (show 0 < 16 by decide)
  intro a; fin_cases a <;> simp [Shape.size, S256x1024, S4096x1024] <;> omega

theorem send_words (j : ℕ) :
    (Rect.unit (s := S4096x1024) ![256 * (j % 16), 0] S256x1024.size (send_inb j)).WholeWords (EltTy.packing .bf16) :=
  (show ∀ i : Fin 16, (Rect.unit (s := S4096x1024) ![256 * (i.val % 16), 0] S256x1024.size (send_inb i.val)).WholeWords
    (EltTy.packing .bf16) by decide) ⟨j % 16, Nat.mod_lt _ (by decide)⟩ |> fun h => by simpa using h

theorem send_packed (j : ℕ) :
    (Rect.unit (s := S4096x1024) ![256 * (j % 16), 0] S256x1024.size (send_inb j)).PackedRows (EltTy.packing .bf16) :=
  (show ∀ i : Fin 16, (Rect.unit (s := S4096x1024) ![256 * (i.val % 16), 0] S256x1024.size (send_inb i.val)).PackedRows
    (EltTy.packing .bf16) by decide) ⟨j % 16, Nat.mod_lt _ (by decide)⟩ |> fun h => by simpa using h

theorem res_words (k : ℕ) :
    (Rect.unit (s := S4x256x1024) ![k % 4, 0, 0] S1x256x1024.size (stage_inb k)).WholeWords (EltTy.packing .bf16) :=
  (show ∀ i : Fin 4, (Rect.unit (s := S4x256x1024) ![i.val % 4, 0, 0] S1x256x1024.size (stage_inb i.val)).WholeWords
    (EltTy.packing .bf16) by decide) ⟨k % 4, Nat.mod_lt _ (by decide)⟩ |> fun h => by simpa using h

theorem res_packed (k : ℕ) :
    (Rect.unit (s := S4x256x1024) ![k % 4, 0, 0] S1x256x1024.size (stage_inb k)).PackedRows (EltTy.packing .bf16) :=
  (show ∀ i : Fin 4, (Rect.unit (s := S4x256x1024) ![i.val % 4, 0, 0] S1x256x1024.size (stage_inb i.val)).PackedRows
    (EltTy.packing .bf16) by decide) ⟨k % 4, Nat.mod_lt _ (by decide)⟩ |> fun h => by simpa using h

/-- The rectangles of a staging slot, a local slot and a chunk of the send buffer. -/
abbrev stageR (j : ℕ) : Rect S4x256x1024 := Rect.unit (s := S4x256x1024) ![j % 4, 0, 0] S1x256x1024.size (stage_inb j)
abbrev localR (k : ℕ) : Rect S6x256x1024 := Rect.unit (s := S6x256x1024) ![k % 6, 0, 0] S1x256x1024.size (local_inb k)
abbrev sendR (j : ℕ) : Rect S4096x1024 := Rect.unit (s := S4096x1024) ![256 * (j % 16), 0] S256x1024.size (send_inb j)

/-- A chunk of the argument at an offset. -/
abbrev xV (o : Fin 3 → ℕ) (h : ∀ a, o a + S1x256x1024.size a ≤ S1x8192x2048.size a) : Memref sig .tc .hbm S256x1024 .f32 :=
  (xM.slice (Rect.unit (s := S1x8192x2048) o S1x256x1024.size h) (fun _ => rfl)).squeeze S256x1024 squeezes_S1x256x1024_S256x1024
/-- A staging slot, a local slot, a result slot and a chunk of the send buffer, each as 256 rows by 1024 columns. -/
abbrev stageV (j : ℕ) : Memref sig .tc .vmem S256x1024 .f32 :=
  (stageM.slice (stageR j) (fun _ => rfl)).squeeze S256x1024 squeezes_S1x256x1024_S256x1024
abbrev localV (k : ℕ) : Memref sig .tc .vmem S256x1024 .f32 :=
  (localM.slice (localR k) (fun _ => rfl)).squeeze S256x1024 squeezes_S1x256x1024_S256x1024
abbrev resV (k : ℕ) : Memref sig .tc .vmem S256x1024 .bf16 :=
  (resM.slice (stageR k) (fun _ => rfl)).squeeze S256x1024 squeezes_S1x256x1024_S256x1024
abbrev sendV (j : ℕ) : Memref sig .tc .vmem S256x1024 .bf16 := sendM.slice (sendR j) (fun _ => rfl)
/-- A chunk of the receive buffer and of the result at an offset. -/
abbrev rowR (o : Fin 2 → ℕ) (h : ∀ a, o a + S256x1024.size a ≤ S8192x1024.size a) : Rect S8192x1024 :=
  Rect.unit (s := S8192x1024) o S256x1024.size h
abbrev recvV (o : Fin 2 → ℕ) (h : ∀ a, o a + S256x1024.size a ≤ S8192x1024.size a) : Memref sig .tc .vmem S256x1024 .bf16 :=
  recvM.slice (rowR o h) (fun _ => rfl)
abbrev outV (o : Fin 2 → ℕ) (h : ∀ a, o a + S256x1024.size a ≤ S8192x1024.size a) : Memref sig .tc .hbm S256x1024 .bf16 :=
  outM.slice (rowR o h) (fun _ => rfl)

/-! ## The body -/

/-- The sum of a local and a received chunk, rounded. -/
def addPay (vl : Vec F S1x256x1024 .f32) (vr : Vec F S256x1024 .bf16) : FVec F S1x256x1024 .bf16 := k0_pay30 vl vr

/-- `f start`, `f (start + 1)`, …, `n` of them. -/
def loop (f : ℕ → TProg F) : ℕ → ℕ → TProg F
  | _, 0 => pure ⟨⟩
  | start, n + 1 => f start >>= fun _ => loop f (start + 1) n

variable (O : Offs)

/-- Start the load of chunk `j` to be sent. -/
def stageStart (j : ℕ) : TProg F :=
  Prog.lift (.enqueueDma (xV (O.xs j) (O.xs_inb j)) (.here (stageV j)) (.dma (dsem (j % 4)))
    ((View.wordExact_bits rfl).reshape _ _) ((View.wordExact_bits rfl).reshape _ _) ⟨Or.inl rfl, trivial⟩)

/-- Round chunk `j` into the send buffer. -/
def stageRound (j : ℕ) : TProg F := do
  let v : Vec F S1x256x1024 .f32 ← Prog.lift (.load stageM (stageR j).toLoadRect (View.loadsAt_vmem h_S1x256x1024))
  let _ : Vec F S256x1024 .bf16 ← Prog.lift (.load sendM (sendR j).toLoadRect (View.loadsAt_vmem h_S256x1024))
  Prog.lift (.store sendM (sendR j) (k0_pay1 v) Finset.univ
    (View.stores_vmem h_S256x1024 ((Memref.isWhole_whole cc0_scratch1).storeExact_slice rfl _ (send_packed j)) (fun _ => rfl)) (.inl rfl))

/-- Send chunk `j` along y. -/
def sendY (j : ℕ) : TProg F :=
  Prog.lift (.enqueueDma (sendV j) (.remote (Dev.tc O.dy) (recvV (O.row j) (O.row_inb j)) (.dma (dsem (14 + j % 16))))
    (.dma (dsem (30 + j % 16))) ((Memref.isWhole_whole cc0_scratch1).wordExact_slice rfl _ (send_words j))
    ((Memref.isWhole_whole cc0_scratch0).wordExact_slice rfl _ (O.row_words j)) ⟨⟨rfl, Or.inl rfl⟩, trivial⟩)

/-- Wait for the load of chunk `j` to be sent. -/
def stageWait (j : ℕ) : TProg F :=
  Prog.lift (.waitDma2 (dsem (j % 4)) (xV (O.xs j) (O.xs_inb j)) (stageV j) ((View.wordExact_bits rfl).reshape _ _)
    ((View.wordExact_bits rfl).reshape _ _))

/-- Start the load the freed staging slot is for, if any. -/
def stageNext (j : ℕ) : TProg F := if j + 4 < 16 then stageStart O (j + 4) else pure ⟨⟩

/-- One step of the sending loop. -/
def stageStep (j : ℕ) : TProg F := do
  stageWait O j
  stageRound j
  stageNext O j
  sendY O j

/-- Start the load of the local part of chunk `k`. -/
def localStart (k : ℕ) : TProg F :=
  Prog.lift (.enqueueDma (xV (O.xl k) (O.xl_inb k)) (.here (localV k)) (.dma (dsem (4 + k % 6)))
    ((View.wordExact_bits rfl).reshape _ _) ((View.wordExact_bits rfl).reshape _ _) ⟨Or.inl rfl, trivial⟩)

/-- Wait for the local part of chunk `k`. -/
def localWait (k : ℕ) : TProg F :=
  Prog.lift (.waitDma2 (dsem (4 + k % 6)) (xV (O.xl k) (O.xl_inb k)) (localV k) ((View.wordExact_bits rfl).reshape _ _)
    ((View.wordExact_bits rfl).reshape _ _))

/-- Wait until chunk `k` of the result has been written out. -/
def resWait (k : ℕ) : TProg F :=
  Prog.lift (.waitDma2 (dsem (10 + k % 4)) (resV k) (outV (O.row k) (O.row_inb k))
    (((Memref.isWhole_whole cc0_scratch4).wordExact_slice rfl _ (res_words k)).reshape _ _)
    ((Memref.isWhole_whole main_v1).wordExact_slice rfl _ (O.row_words k)))

/-- Start writing chunk `k` of the result out. -/
def resStart (k : ℕ) : TProg F :=
  Prog.lift (.enqueueDma (resV k) (.here (outV (O.row k) (O.row_inb k))) (.dma (dsem (10 + k % 4)))
    (((Memref.isWhole_whole cc0_scratch4).wordExact_slice rfl _ (res_words k)).reshape _ _)
    ((Memref.isWhole_whole main_v1).wordExact_slice rfl _ (O.row_words k)) ⟨Or.inl rfl, trivial⟩)

/-- Wait until the result slot of chunk `k` is free. -/
def resReady (k : ℕ) : TProg F := if 4 ≤ k then resWait O (k - 4) else pure ⟨⟩

/-- Start the load the freed local slot is for, if any. -/
def localNext (k : ℕ) : TProg F := if k + 6 < 32 then localStart O (k + 6) else pure ⟨⟩

/-- Put the sum of a local and a received chunk into the result slot of chunk `k`. -/
def addStore (k : ℕ) (vl : Vec F S1x256x1024 .f32) (vr : Vec F S256x1024 .bf16) : TProg F := do
  let _ : Vec F S1x256x1024 .bf16 ← Prog.lift (.load resM (stageR k).toLoadRect (View.loadsAt_vmem h_S1x256x1024))
  Prog.lift (.store resM (stageR k) (addPay vl vr) Finset.univ
    (View.stores_vmem h_S1x256x1024 ((Memref.isWhole_whole cc0_scratch4).storeExact_slice rfl _ (res_packed k)) (fun _ => rfl)) (.inl rfl))

/-- Add the local part of chunk `k` to the received one and start writing the sum out. -/
def process (k : ℕ) : TProg F := do
  localWait O k
  let vl : Vec F S1x256x1024 .f32 ← Prog.lift (.load localM (localR k).toLoadRect (View.loadsAt_vmem h_S1x256x1024))
  let vr : Vec F S256x1024 .bf16 ← Prog.lift (.load recvM (rowR (O.rowL k) (O.rowL_inb k)).toLoadRect (View.loadsAt_vmem h_S256x1024))
  resReady O k
  addStore k vl vr
  resStart O k
  localNext O k

/-- Wait for chunk `k` from the peer along y. -/
def recvYWait (k : ℕ) : TProg F :=
  Prog.lift (.waitDma2 (dsem (30 + k % 16)) (sendV k) (recvV (O.row k) (O.row_inb k))
    ((Memref.isWhole_whole cc0_scratch1).wordExact_slice rfl _ (send_words k))
    ((Memref.isWhole_whole cc0_scratch0).wordExact_slice rfl _ (O.row_words k)))

/-- Forward received chunk `k` along x. -/
def sendX (k : ℕ) : TProg F :=
  Prog.lift (.enqueueDma (recvV (O.row k) (O.row_inb k)) (.remote (Dev.tc O.dx) (recvV (O.row k) (O.row_inb k)) (.dma (dsem (46 + k % 16))))
    (.dma (dsem (62 + k % 16))) ((Memref.isWhole_whole cc0_scratch0).wordExact_slice rfl _ (O.row_words k))
    ((Memref.isWhole_whole cc0_scratch0).wordExact_slice rfl _ (O.row_words k)) ⟨⟨rfl, Or.inl rfl⟩, trivial⟩)

/-- Wait on DMA semaphore `q` for a copy of chunk `k` of the receive buffer to itself: a chunk from the peer along x, or
    the forwarded chunk read. -/
def xWait (q k : ℕ) : TProg F :=
  Prog.lift (.waitDma2 (dsem q) (recvV (O.row k) (O.row_inb k)) (recvV (O.row k) (O.row_inb k))
    ((Memref.isWhole_whole cc0_scratch0).wordExact_slice rfl _ (O.row_words k))
    ((Memref.isWhole_whole cc0_scratch0).wordExact_slice rfl _ (O.row_words k)))

/-- Wait until chunk `k` sent along y has been read. -/
def sentYWait (k : ℕ) : TProg F :=
  Prog.lift (.waitDma2 (dsem (14 + k % 16)) (recvV (O.row k) (O.row_inb k)) (sendV k)
    ((Memref.isWhole_whole cc0_scratch0).wordExact_slice rfl _ (O.row_words k))
    ((Memref.isWhole_whole cc0_scratch1).wordExact_slice rfl _ (send_words k)))

/-- One step of the first loop over chunks: a chunk from the peer along y. -/
def ownStep (k : ℕ) : TProg F := do
  recvYWait O k
  sendX O k
  process O k

/-- One step of the second loop: chunk `16 + k`, from the peer along x. -/
def otherStep (k : ℕ) : TProg F := do
  xWait O (62 + k % 16) k
  process O (16 + k)

/-- The waits for the chunks sent. -/
def sentStep (k : ℕ) : TProg F := do
  sentYWait O k
  xWait O (46 + k % 16) k

/-- The barrier: signal both peers, wait for both. -/
def barrierStep : TProg F := do
  semSignalWord O.sy barS 1#32
  semSignalWord O.sx barS 1#32
  semWaitWord barS 2#32

/-- The body, on a device whose chunks and peers are `O`. -/
def bodyAt : TProg F := do
  barrierStep O
  loop (stageStart O) 0 4
  loop (stageStep O) 0 16
  loop (localStart O) 0 6
  loop (ownStep O) 0 16
  loop (otherStep O) 0 16
  loop (sentStep O) 0 16
  loop (resWait O) 28 4

/-- The body. -/
def body : TProg F := do
  let d : Dev nD ← Prog.lift .deviceId
  bodyAt (genOffs d)

end Cert.Proof

end
-- ==== Proof.Canon.lean ====
/-
  Where the chunks lie.

  Device `d` of the 2 × 2 mesh has coordinates `x = d / 2` and `y = d % 2`. Rows are cut into 32 chunks of 256: a device's
  own half is the 16 chunks from `16 x`, the other half the remaining 16. Columns are cut into two halves of 1024: the
  result holds half `y`.
-/
module

public import proofs.«01_k».proof.Proof.Prog
public import Idealize.ShloMosaic.Lib.ViewIndex

@[expose] public section

set_option maxRecDepth 65536

noncomputable section

namespace Cert.Proof

open Idealize.ShloMosaic Idealize.ShloMosaic.TcCoe
open Idealize.SL.Sem
open Cert.KernelIdeal Cert.KernelIdeal.Gen

/-! ## Peers -/

/-- The device at the same `x` and the other `y`; -/
def peerY (d : Dev nD) : Dev nD := ⟨(2 * (d.val / 2) + 1) - d.val % 2, by have := d.isLt; change _ < 4; change d.val < 4 at this; omega⟩
/-- at the other `x` and the same `y`. -/
def peerX (d : Dev nD) : Dev nD := ⟨(d.val % 2 + 2) - 2 * (d.val / 2), by have := d.isLt; change _ < 4; change d.val < 4 at this; omega⟩

theorem peerY_peerY (d : Dev nD) : peerY (peerY d) = d := by revert d; decide
theorem peerX_peerX (d : Dev nD) : peerX (peerX d) = d := by revert d; decide
theorem peerY_ne_peerX (d : Dev nD) : peerY d ≠ peerX d := by revert d; decide

def eqvY : Dev nD ≃ Dev nD := ⟨peerY, peerY, peerY_peerY, peerY_peerY⟩
def eqvX : Dev nD ≃ Dev nD := ⟨peerX, peerX, peerX_peerX, peerX_peerX⟩

/-! ## Row chunks -/

/-- The row chunk that is device `d`'s chunk `k`: its own half first, then the other half. -/
def rowIx (d : Dev nD) (k : ℕ) : ℕ := if k < 16 then 16 * (d.val / 2) + k % 16 else (16 - 16 * (d.val / 2)) + k % 16

/-- A device's column half. -/
abbrev colY (d : Dev nD) : ℕ := d.val % 2
/-- The other one. -/
abbrev colN (d : Dev nD) : ℕ := 1 - d.val % 2

theorem dev_lt (d : Dev nD) : d.val < 4 := d.isLt

theorem rowIx_lt (d : Dev nD) (k : ℕ) : rowIx d k < 32 := by
  have := dev_lt d; have := Nat.mod_lt k (show 0 < 16 by decide); unfold rowIx; split <;> omega

theorem rowIx_peerY (d : Dev nD) (k : ℕ) : rowIx (peerY d) k = rowIx d k := by
  have := dev_lt d; simp only [rowIx, peerY]; split <;> omega
/-- The peer along x finds a device's chunk `k` as its chunk `16 + k`, -/
theorem rowIx_peerX_add (d : Dev nD) {k : ℕ} (h : k < 16) : rowIx (peerX d) (16 + k) = rowIx d k := by
  have := dev_lt d; simp only [rowIx, peerX]; rw [if_neg (by omega), if_pos h]; omega
/-- and its chunk `16 + k` as chunk `k`. -/
theorem rowIx_peerX (d : Dev nD) {k : ℕ} (h : k < 16) : rowIx (peerX d) k = rowIx d (16 + k) := by
  have := dev_lt d; simp only [rowIx, peerX]; rw [if_pos h, if_neg (by omega)]; omega

theorem colN_peerY (d : Dev nD) : colN (peerY d) = colY d := by
  have := dev_lt d; simp only [colN, colY, peerY]; omega
theorem colY_peerX (d : Dev nD) : colY (peerX d) = colY d := by
  have := dev_lt d; simp only [colY, peerX]; omega

theorem rowIx_inj (d : Dev nD) {k k' : ℕ} (h : k < 32) (h' : k' < 32) (e : rowIx d k = rowIx d k') : k = k' := by
  have := dev_lt d; unfold rowIx at e; split at e <;> split at e <;> omega

theorem rowIx_surj (d : Dev nD) {r : ℕ} (h : r < 32) : ∃ k < 32, rowIx d k = r := by
  have := dev_lt d
  by_cases hr : r / 16 = d.val / 2
  · exact ⟨r % 16, by omega, by unfold rowIx; rw [if_pos (by omega)]; omega⟩
  · exact ⟨16 + r % 16, by omega, by unfold rowIx; rw [if_neg (by omega)]; omega⟩

/-! ## Offsets -/

/-- The offset of row chunk `r`, and of row chunk `r` at column half `h` of the argument. -/
abbrev offR (r : ℕ) : Fin 2 → ℕ := ![256 * (r % 32), 0]
abbrev offX (r h : ℕ) : Fin 3 → ℕ := ![0, 256 * (r % 32), 1024 * (h % 2)]

theorem offR_inb (r : ℕ) : ∀ a, offR r a + S256x1024.size a ≤ S8192x1024.size a := by
  have := Nat.mod_lt r (show 0 < 32 by decide)
  intro a; fin_cases a <;> simp [Shape.size, S256x1024, S8192x1024] <;> omega
theorem offX_inb (r h : ℕ) : ∀ a, offX r h a + S1x256x1024.size a ≤ S1x8192x2048.size a := by
  have := Nat.mod_lt r (show 0 < 32 by decide)
  have := Nat.mod_lt h (show 0 < 2 by decide)
  intro a; fin_cases a <;> simp [Shape.size, S1x256x1024, S1x8192x2048] <;> omega
theorem offR_words (r : ℕ) :
    (Rect.unit (s := S8192x1024) (offR r) S256x1024.size (offR_inb r)).WholeWords (EltTy.packing .bf16) :=
  (show ∀ i : Fin 32, (Rect.unit (s := S8192x1024) ![256 * (i.val % 32), 0] S256x1024.size (offR_inb i.val)).WholeWords
    (EltTy.packing .bf16) by decide) ⟨r % 32, Nat.mod_lt _ (by decide)⟩ |> fun h => by simpa using h

/-- The offsets in closed form. -/
def canonOffs (d : Dev nD) : Offs where
  xs j := offX (rowIx d (j % 16)) (colN d)
  xs_inb j := offX_inb _ _
  xl k := offX (rowIx d k) (colY d)
  xl_inb k := offX_inb _ _
  row k := offR (rowIx d k)
  row_inb k := offR_inb _
  row_words k := offR_words _
  rowL k := offR (rowIx d k)
  rowL_inb k := offR_inb _
  sy := peerY d
  sx := peerX d
  dy := peerY d
  dx := peerX d

theorem Offs.eq_of {O O' : Offs} (h1 : O.xs = O'.xs) (h2 : O.xl = O'.xl) (h3 : O.row = O'.row) (h4 : O.rowL = O'.rowL)
    (h5 : O.sy = O'.sy) (h6 : O.sx = O'.sx) (h7 : O.dy = O'.dy) (h8 : O.dx = O'.dx) : O = O' := by
  cases O; cases O'; simp only at h1 h2 h3 h4 h5 h6 h7 h8; subst h1 h2 h3 h4 h5 h6 h7 h8; rfl

theorem genOffs_eq (d : Dev nD) : genOffs d = canonOffs d := by
  have hd := dev_lt d
  have hk := fun k : ℕ => Nat.mod_lt k (show 0 < 16 by decide)
  refine Offs.eq_of ?_ ?_ ?_ ?_ ?_ ?_ ?_ ?_
  · funext j; have := hk j
    show k0_off1 d (BitVec.ofNat 32 (256 * (i16 j).val)) = _
    rw [k0_off1_eq d (i16 j)]
    simp only [canonOffs, offX, rowIx, i16, colN]
    rw [if_pos (Nat.mod_lt _ (by decide))]
    congr 2 <;> [skip; congr 1] <;> omega
  · funext k; have := hk k
    show xlOff d k = _
    simp only [canonOffs, offX, rowIx, colY, xlOff]
    split
    · rw [k0_off3_eq d (i16 k)]; simp only [i16]; congr 2 <;> [skip; congr 1] <;> omega
    · rw [k0_off5_eq d (i16 k)]; simp only [i16]; congr 2 <;> [skip; congr 1] <;> omega
  · funext k; have := hk k
    show rowOff d k = _
    simp only [canonOffs, offR, rowIx, rowOff]
    split
    · rw [k0_off2_eq d (i16 k)]; simp only [i16]; congr 1; omega
    · rw [k0_off7_eq d (i16 k)]; simp only [i16]; congr 1; omega
  · funext k; have := hk k
    show rowLOff d k = _
    simp only [canonOffs, offR, rowIx, rowLOff]
    split
    · rw [k0_off4_eq d (i16 k)]; simp only [i16]; congr 1; omega
    · rw [k0_off6_eq d (i16 k)]; simp only [i16]; congr 1; omega
  · exact Fin.ext (k0_dev1_eq d)
  · exact Fin.ext (k0_dev2_eq d)
  · exact Fin.ext (k0_dev3_eq d)
  · exact Fin.ext (k0_dev19_eq d)

/-! ## Chunks by number -/

/-- Row chunk `r` at column half `h` of the argument; row chunk `r` of the receive buffer and of the result. -/
abbrev xC (r h : ℕ) : Memref sig .tc .hbm S256x1024 .f32 := xV (offX r h) (offX_inb r h)
abbrev rC (r : ℕ) : Memref sig .tc .vmem S256x1024 .bf16 := recvV (offR r) (offR_inb r)
abbrev oC (r : ℕ) : Memref sig .tc .hbm S256x1024 .bf16 := outV (offR r) (offR_inb r)

theorem stageR_congr {j j' : ℕ} (h : j % 4 = j' % 4) : stageR j = stageR j' :=
  Rect.unit_congr (by rw [h]) _ _
theorem localR_congr {j j' : ℕ} (h : j % 6 = j' % 6) : localR j = localR j' :=
  Rect.unit_congr (by rw [h]) _ _
theorem stageV_congr {j j' : ℕ} (h : j % 4 = j' % 4) : stageV j = stageV j' :=
  congrArg (fun m : Memref sig .tc .vmem S1x256x1024 .f32 => m.squeeze S256x1024 squeezes_S1x256x1024_S256x1024)
    (Memref.slice_unit_congr stageM (by rw [h]) _ _ _ _)
theorem localV_congr {j j' : ℕ} (h : j % 6 = j' % 6) : localV j = localV j' :=
  congrArg (fun m : Memref sig .tc .vmem S1x256x1024 .f32 => m.squeeze S256x1024 squeezes_S1x256x1024_S256x1024)
    (Memref.slice_unit_congr localM (by rw [h]) _ _ _ _)
theorem resV_congr {j j' : ℕ} (h : j % 4 = j' % 4) : resV j = resV j' :=
  congrArg (fun m : Memref sig .tc .vmem S1x256x1024 .bf16 => m.squeeze S256x1024 squeezes_S1x256x1024_S256x1024)
    (Memref.slice_unit_congr resM (by rw [h]) _ _ _ _)

/-! ## Disjointness -/

theorem xC_disj {r h r' h' : ℕ} (hr : r < 32) (hr' : r' < 32) (hh : h < 2) (hh' : h' < 2) (hne : r ≠ r' ∨ h ≠ h') :
    Disjoint (xC r h).view.set (xC r' h').view.set := by
  rw [View.set_reshape, View.set_reshape]
  refine View.disjoint_slice ?_
  rcases hne with hne | hne
  · exact Rect.unit_disjoint (1 : Fin 3) (by simp [S1x256x1024]; omega)
  · exact Rect.unit_disjoint (2 : Fin 3) (by simp [S1x256x1024]; omega)

theorem rC_disj {r r' : ℕ} (hr : r < 32) (hr' : r' < 32) (hne : r ≠ r') : Disjoint (rC r).view.set (rC r').view.set := by
  refine View.disjoint_slice ?_
  exact Rect.unit_disjoint (0 : Fin 2) (by simp [S256x1024]; omega)
theorem oC_disj {r r' : ℕ} (hr : r < 32) (hr' : r' < 32) (hne : r ≠ r') : Disjoint (oC r).view.set (oC r').view.set := by
  refine View.disjoint_slice ?_
  exact Rect.unit_disjoint (0 : Fin 2) (by simp [S256x1024]; omega)
theorem sendV_disj {r r' : ℕ} (hr : r < 16) (hr' : r' < 16) (hne : r ≠ r') : Disjoint (sendV r).view.set (sendV r').view.set := by
  refine View.disjoint_slice ?_
  exact Rect.unit_disjoint (0 : Fin 2) (by simp [S256x1024]; omega)
theorem stageV_disj {r r' : ℕ} (hr : r < 4) (hr' : r' < 4) (hne : r ≠ r') : Disjoint (stageV r).view.set (stageV r').view.set := by
  rw [View.set_reshape, View.set_reshape]
  refine View.disjoint_slice ?_
  exact Rect.unit_disjoint (0 : Fin 3) (by simp [S1x256x1024]; omega)
theorem localV_disj {r r' : ℕ} (hr : r < 6) (hr' : r' < 6) (hne : r ≠ r') : Disjoint (localV r).view.set (localV r').view.set := by
  rw [View.set_reshape, View.set_reshape]
  refine View.disjoint_slice ?_
  exact Rect.unit_disjoint (0 : Fin 3) (by simp [S1x256x1024]; omega)
theorem resV_disj {r r' : ℕ} (hr : r < 4) (hr' : r' < 4) (hne : r ≠ r') : Disjoint (resV r).view.set (resV r').view.set := by
  rw [View.set_reshape, View.set_reshape]
  refine View.disjoint_slice ?_
  exact Rect.unit_disjoint (0 : Fin 3) (by simp [S1x256x1024]; omega)

/-! ## Transfer credits -/

/-- What a transfer of a chunk of 32-bit and of 16-bit elements counts. -/
abbrev NF : ℕ := (stageV 0).view.dmaCredit
abbrev NB : ℕ := (rC 0).view.dmaCredit
theorem NF_pos : 0 < NF := View.dmaCredit_pos _ (by decide)
theorem NB_pos : 0 < NB := View.dmaCredit_pos _ (by decide)
theorem credit_stage (j : ℕ) : (stageV j).view.dmaCredit = NF := rfl
theorem credit_local (j : ℕ) : (localV j).view.dmaCredit = NF := rfl
theorem credit_send (j : ℕ) : (sendV j).view.dmaCredit = NB := rfl
theorem credit_recv (r : ℕ) : (rC r).view.dmaCredit = NB := rfl
theorem credit_out (r : ℕ) : (oC r).view.dmaCredit = NB := rfl

end Cert.Proof

end
-- ==== Proof.Base.lean ====
/-
  Ground for the proof of the body: the resource algebra, big separating conjunctions over intervals, what a memref
  holds, cutting a buffer into pieces and joining them again, and the rules for composing programs.
-/
module

public import proofs.«01_k».proof.Proof.Canon
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 65536

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the kernel's own cells' -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Big separating conjunctions over intervals -/

section Ico

variable {M : Type} [URA M] (Φ : ℕ → sProp M)

theorem ico_nil {a b : ℕ} (h : b ≤ a) : bigSep (Finset.Ico a b) Φ = iprop(emp) := by
  rw [Finset.Ico_eq_empty (by omega), bigSep_empty]; rfl

theorem ico_pop {a b : ℕ} (h : a < b) : bigSep (Finset.Ico a b) Φ = iprop(Φ a ∗ bigSep (Finset.Ico (a + 1) b) Φ) := by
  rw [show Finset.Ico a b = insert a (Finset.Ico (a + 1) b) from Finset.ext fun i => by
    rw [Finset.mem_insert, Finset.mem_Ico, Finset.mem_Ico]; omega, bigSep_insert (by rw [Finset.mem_Ico]; omega)]; rfl

theorem ico_push {a b : ℕ} (h : a ≤ b) : bigSep (Finset.Ico a (b + 1)) Φ = iprop(bigSep (Finset.Ico a b) Φ ∗ Φ b) := by
  rw [show Finset.Ico a (b + 1) = insert b (Finset.Ico a b) from Finset.ext fun i => by
    rw [Finset.mem_insert, Finset.mem_Ico, Finset.mem_Ico]; omega, bigSep_insert (by rw [Finset.mem_Ico]; omega)]
  exact equiv_iff.mp ⟨BI.sep_comm, BI.sep_comm⟩

theorem ico_cat {a b c : ℕ} (h : a ≤ b) (h' : b ≤ c) :
    bigSep (Finset.Ico a c) Φ = iprop(bigSep (Finset.Ico a b) Φ ∗ bigSep (Finset.Ico b c) Φ) := by
  rw [← Finset.Ico_union_Ico_eq_Ico h h', bigSep_union (Finset.Ico_disjoint_Ico_consecutive a b c)]; rfl

/-- The interval shifted down to start at 0. -/
theorem ico_shift (a n : ℕ) : bigSep (Finset.Ico a (a + n)) Φ = bigSep (Finset.Ico 0 n) fun i => Φ (a + i) := by
  rw [show Finset.Ico a (a + n) = (Finset.Ico 0 n).map (addLeftEmbedding a) from Finset.ext fun i => by
    rw [Finset.mem_map, Finset.mem_Ico]
    refine ⟨fun h => ⟨i - a, Finset.mem_Ico.mpr (by omega), by show a + (i - a) = i; omega⟩, ?_⟩
    rintro ⟨j, hj, rfl⟩
    have := Finset.mem_Ico.mp hj
    show a ≤ a + j ∧ a + j < a + n; omega, bigSep_map]; rfl

theorem ico_fin (n : ℕ) : (bigSep Finset.univ fun i : Fin n => Φ i.val) = bigSep (Finset.Ico 0 n) Φ := by
  rw [show Finset.Ico 0 n = Finset.univ.map (Fin.valEmbedding (n := n)) from Finset.ext fun i => by
    rw [Finset.mem_map, Finset.mem_Ico]
    refine ⟨fun h => ⟨⟨i, h.2⟩, Finset.mem_univ _, rfl⟩, ?_⟩
    rintro ⟨j, -, rfl⟩
    exact ⟨Nat.zero_le _, j.isLt⟩, bigSep_map]; rfl

variable {Φ} in
theorem ico_congr {Ψ : ℕ → sProp M} {a b : ℕ} (h : ∀ i, a ≤ i → i < b → Φ i = Ψ i) : bigSep (Finset.Ico a b) Φ = bigSep (Finset.Ico a b) Ψ :=
  bigSep_congr fun i hi => h i (Finset.mem_Ico.mp hi).1 (Finset.mem_Ico.mp hi).2

variable {Φ} in
theorem ico_mono {Ψ : ℕ → sProp M} {a b : ℕ} (h : ∀ i, a ≤ i → i < b → Φ i ⊢ Ψ i) : bigSep (Finset.Ico a b) Φ ⊢ bigSep (Finset.Ico a b) Ψ :=
  bigSep_mono fun i hi => h i (Finset.mem_Ico.mp hi).1 (Finset.mem_Ico.mp hi).2

end Ico

/-! ## What a memref holds -/

variable (m : (ℓ : Loc nD τ sig) → Buf (Elt F) ℓ)

section Holds

variable {sp : Space} {s : Shape} {e : EltTy} (c : Dev nD) (V : Memref sig .tc sp s e)

/-- The share `q` of the elements under `V` on device `c`, which read `v`. -/
def holds (q : PosShare TreeShare) (v : s.Idx → Elt F e) : sProp 𝕄 :=
  V.view.loc (c : Thread nD τ) ↦[V.view.set]{q} V.view.write (Elt F) (m (V.view.loc (c : Thread nD τ))) v Finset.univ

/-- All of the elements under `V` on device `c`, whatever they read. -/
def any : sProp 𝕄 := iprop(∃ f : Buf (Elt F) (V.view.loc (c : Thread nD τ)), V.view.loc (c : Thread nD τ) ↦[V.view.set]{fullShare} f)

omit [FloatOps F] in
instance holds_storable (q : PosShare TreeShare) (v : s.Idx → Elt F e) : BI.Storable (upEmb : UEmb _ 𝕄) (holds m c V q v) := by unfold holds; infer_instance
omit [FloatOps F] in
instance any_storable : BI.Storable (upEmb : UEmb _ 𝕄) (any (F := F) c V) := by unfold any; infer_instance

omit [FloatOps F] in
theorem holds_eq (q : PosShare TreeShare) (f : Buf (Elt F) (V.view.loc (c : Thread nD τ))) :
    (V.view.loc (c : Thread nD τ) ↦[V.view.set]{q} f : sProp 𝕄) = holds m c V q (V.view.read (Elt F) f) := by
  unfold holds
  refine pointsTo_congr fun i hi => ?_
  rw [View.write_read_eq_piecewise, View.setOn_univ, Finset.piecewise_eq_of_mem _ _ _ hi]

omit [FloatOps F] in
theorem holds_of (q : PosShare TreeShare) (f : Buf (Elt F) (V.view.loc (c : Thread nD τ))) {v : s.Idx → Elt F e}
    (h : V.view.read (Elt F) f = v) : (V.view.loc (c : Thread nD τ) ↦[V.view.set]{q} f : sProp 𝕄) ⊢ holds m c V q v := by
  subst h; exact Entails.of_eq (holds_eq m c V q f)

omit [FloatOps F] in
theorem any_of (f : Buf (Elt F) (V.view.loc (c : Thread nD τ))) :
    (V.view.loc (c : Thread nD τ) ↦[V.view.set]{fullShare} f : sProp 𝕄) ⊢ any c V := by
  unfold any; iintro H; iexists f; iexact H

omit [FloatOps F] in
theorem holds_any (v : s.Idx → Elt F e) : holds m c V fullShare v ⊢ any c V := any_of c V _

omit [FloatOps F] in
/-- Two halves of what a memref holds. -/
theorem holds_halves (v : s.Idx → Elt F e) :
    holds m c V fullShare v ⊣⊢ iprop(holds m c V fullShare.left v ∗ holds m c V fullShare.right v) := by
  unfold holds; exact pointsTo_share (PosShare.mem_left_op_right _)

end Holds

/-! ## Cutting a buffer into pieces -/

section Cut

variable {ℓ : Loc nD τ sig} (K : ℕ → Finset (Idx ℓ)) (n : ℕ)

/-- What the pieces leave. -/
abbrev rest : Finset (Idx ℓ) := Finset.univ \ (Finset.Ico 0 n).biUnion K

variable (hK : ∀ t ∈ Finset.Ico 0 n, ∀ t' ∈ Finset.Ico 0 n, t ≠ t' → Disjoint (K t) (K t'))
include hK

omit [FloatOps F] in
theorem cut_eq (f : Buf (Elt F) ℓ) :
    (ℓ ↦{fullShare} f : sProp 𝕄) ⊣⊢ iprop((bigSep (Finset.Ico 0 n) fun t => ℓ ↦[K t]{fullShare} f) ∗ ℓ ↦[rest K n]{fullShare} f) := by
  rw [← pointsTo_biUnion (Finset.Ico 0 n) K hK]
  exact pointsTo_split_subset (Finset.subset_univ _)

omit [FloatOps F] in
/-- Pieces and the rest, joined: the buffer, agreeing with each piece. -/
theorem glue (fs : ℕ → Buf (Elt F) ℓ) (f : Buf (Elt F) ℓ) :
    iprop((bigSep (Finset.Ico 0 n) fun t => ℓ ↦[K t]{fullShare} fs t) ∗ ℓ ↦[rest K n]{fullShare} f)
      ⊢ (iprop(∃ g : Buf (Elt F) ℓ, ⌜∀ t < n, ∀ i ∈ K t, g i = fs t i⌝ ∗ ℓ ↦{fullShare} g) : sProp 𝕄) := by
  iintro ⟨Hp, Hr⟩
  ihave Hj := (pointsTo_biUnion_join (Finset.Ico 0 n) K fs f hK) $$ Hp
  icases Hj with ⟨%g, %hg, Hj⟩
  ihave H := (pointsTo_join_subset (S := Finset.univ) (Finset.subset_univ ((Finset.Ico 0 n).biUnion K))) $$ [Hj Hr]
  · isplitl [Hj]; · iexact Hj
    iexact Hr
  iexists (((Finset.Ico 0 n).biUnion K).piecewise g f)
  isplitr
  · ipureintro
    intro t ht i hi
    have ht' := Finset.mem_Ico.mpr ⟨Nat.zero_le t, ht⟩
    rw [Finset.piecewise_eq_of_mem _ _ _ (Finset.mem_biUnion.mpr ⟨t, ht', hi⟩)]
    exact hg t ht' i hi
  iexact H

end Cut

/-! ## Composing programs -/

section Tri

variable (c : Dev nD) (Γ : sProp (MT nD τ sig Unit (Elt F) ℕ UU ℕ)) [BI.Persistent Γ]

/-- Under `Γ`, the program `p` on device `c` takes `P` to `R`. -/
def Tri (P : sProp 𝕄) (p : TProg F) (R : sProp 𝕄) : Prop :=
  ∀ Q : PUnit → sProp 𝕄, iprop(Γ ∗ P ∗ (R -∗ Q ⟨⟩)) ⊢ wp frame (wpE (defs₀ (F := F)) 𝒱₀ (c : Thread nD τ) none) Set.univ p Q

variable {c Γ} {P R S P' R' : sProp (MT nD τ sig Unit (Elt F) ℕ UU ℕ)} {p q : TProg F}

theorem Tri.seq (h : Tri c Γ P p R) (h' : Tri c Γ R q S) : Tri c Γ P (p >>= fun _ => q) S := fun Q => by
  rw [wp_bind]
  iintro ⟨#HG, HP, HK⟩
  iapply (h _)
  isplitr; · iexact HG
  isplitl [HP]; · iexact HP
  iintro HR
  iapply (h' Q)
  isplitr; · iexact HG
  isplitl [HR]; · iexact HR
  iexact HK

theorem Tri.frame (X : sProp 𝕄) (h : Tri c Γ P p R) : Tri c Γ iprop(P ∗ X) p iprop(R ∗ X) := fun Q => by
  iintro ⟨#HG, ⟨HP, HX⟩, HK⟩
  iapply (h Q)
  isplitr; · iexact HG
  isplitl [HP]; · iexact HP
  iintro HR
  iapply HK
  isplitl [HR]; · iexact HR
  iexact HX

theorem Tri.conseq (hP : P' ⊢ P) (hR : R ⊢ R') (h : Tri c Γ P p R) : Tri c Γ P' p R' := fun Q => by
  iintro ⟨#HG, HP, HK⟩
  iapply (h Q)
  isplitr; · iexact HG
  isplitl [HP]; · iapply hP; iexact HP
  iintro HR
  iapply HK
  iapply hR; iexact HR

theorem Tri.skip : Tri c Γ P (pure ⟨⟩) P := fun Q => by
  rw [show (pure ⟨⟩ : TProg F) = .ret ⟨⟩ from rfl, wp_ret]
  iintro ⟨-, HP, HK⟩
  imodintro
  iapply HK; iexact HP

theorem Tri.loop {f : ℕ → TProg F} {I : ℕ → sProp 𝕄} (n : ℕ) : ∀ (s : ℕ),
    (∀ i, s ≤ i → i < s + n → Tri c Γ (I i) (f i) (I (i + 1))) → Tri c Γ (I s) (loop f s n) (I (s + n)) := by
  induction n with
  | zero => intro s _; exact Tri.skip
  | succ n ih =>
    intro s h
    have := ih (s + 1) fun i h1 h2 => h i (by omega) (by omega)
    rw [show s + 1 + n = s + (n + 1) by omega] at this
    exact (h s le_rfl (by omega)).seq this

end Tri

end Cert.Proof

end
-- ==== Proof.Sched.lean ====
/-
  The schedule of the semaphores: what each unit of each semaphore pays for, in which round, and the levels at which
  waits are allowed.
-/
module

public import proofs.«01_k».proof.Proof.Base

@[expose] public section

set_option maxRecDepth 65536

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Values -/

/-- A chunk rounded to 16 bits, -/
def rnd (v : FVec F S256x1024 .f32) : FVec F S256x1024 .bf16 := truncf .bf16 v bitsLt_bf16_f32
/-- and the sum of a chunk and a rounded one, rounded. -/
def addv (v : FVec F S256x1024 .f32) (w : FVec F S256x1024 .bf16) : FVec F S256x1024 .bf16 :=
  truncf .bf16 (addf v (extf .f32 w bitsLt_bf16_f32)) bitsLt_bf16_f32

/-- Device `c`'s argument: row chunk `r` at column half `h`; -/
def xval (c : Dev nD) (r h : ℕ) : FVec F S256x1024 .f32 :=
  (xC r h).view.read (Elt F) (m ((xC r h).view.loc (c : Thread nD τ)))
/-- the hold on it. -/
def xpc (c : Dev nD) (r h : ℕ) : sProp 𝕄 :=
  (xC r h).view.loc (c : Thread nD τ) ↦[(xC r h).view.set]{fullShare} m ((xC r h).view.loc (c : Thread nD τ))

/-- The device whose argument chunk `k` of device `c` is added from. -/
def srcDev (c : Dev nD) (k : ℕ) : Dev nD := if k < 16 then peerY c else peerY (peerX c)
/-- What device `c` sends along y as chunk `j`; -/
def sval (c : Dev nD) (j : ℕ) : FVec F S256x1024 .bf16 := rnd (xval m c (rowIx c (j % 16)) (colN c))
/-- what it receives as chunk `k`, -/
def rval (c : Dev nD) (k : ℕ) : FVec F S256x1024 .bf16 := rnd (xval m (srcDev c k) (rowIx c k) (colY c))
/-- and its result's chunk `k`. -/
def oval (c : Dev nD) (k : ℕ) : FVec F S256x1024 .bf16 := addv (xval m c (rowIx c k) (colY c)) (rval m c k)

omit [FloatOps F] in
theorem colN_self_peerY (c : Dev nD) : colN c = colY (peerY c) := by
  have := dev_lt c; simp only [colN, colY, peerY]; omega

/-- What a device sends along y is what the peer receives. -/
theorem sval_eq (c : Dev nD) {j : ℕ} (h : j < 16) : sval m c j = rval m (peerY c) j := by
  unfold sval rval srcDev
  rw [if_pos h, peerY_peerY, rowIx_peerY, ← colN_self_peerY, Nat.mod_eq_of_lt h]

/-- What it forwards along x is what the peer receives as a chunk of the other half. -/
theorem rval_eq (c : Dev nD) {k : ℕ} (h : k < 16) : rval m c k = rval m (peerX c) (16 + k) := by
  unfold rval srcDev
  rw [if_pos h, if_neg (by omega), peerX_peerX, rowIx_peerX_add c h, colY_peerX]

/-! ## Cells -/

abbrev dcell (c : Dev nD) (q : ℕ) : GSem nD τ sig := ((c : Thread nD τ), .dma (dsem q))
abbrev bcell (c : Dev nD) : GSem nD τ sig := ((c : Thread nD τ), .reg barS)

/-! ## Payloads -/

/-- A chunk to be sent loaded: the slot, and the argument's chunk back. -/
def stPay (c : Dev nD) (j : ℕ) : sProp 𝕄 :=
  iprop(holds m c (stageV j) fullShare (xval m c (rowIx c (j % 16)) (colN c)) ∗ xpc m c (rowIx c (j % 16)) (colN c))
/-- A local chunk loaded. -/
def loPay (c : Dev nD) (k : ℕ) : sProp 𝕄 :=
  iprop(holds m c (localV k) fullShare (xval m c (rowIx c k) (colY c)) ∗ xpc m c (rowIx c k) (colY c))
/-- A chunk of the result written out, its slot back. -/
def rePay (c : Dev nD) (k : ℕ) : sProp 𝕄 := iprop(holds m c (oC (rowIx c k)) fullShare (oval m c k) ∗ any c (resV k))
/-- A chunk sent along y read: its room back. -/
def syPay (c : Dev nD) (j : ℕ) : sProp 𝕄 := any c (sendV j)
/-- A chunk arrived along y. -/
def ryPay (c : Dev nD) (k : ℕ) : sProp 𝕄 := holds m c (rC (rowIx c k)) fullShare (rval m c k)
/-- A forwarded chunk read: the half share back. -/
def sxPay (c : Dev nD) (k : ℕ) : sProp 𝕄 := holds m c (rC (rowIx c k)) fullShare.left (rval m c k)
/-- A chunk arrived along x. -/
def rxPay (c : Dev nD) (k : ℕ) : sProp 𝕄 := holds m c (rC (rowIx c (16 + k))) fullShare (rval m c (16 + k))
/-- What a peer's barrier signal hands: its receive buffer's chunks this device will write. -/
def barPay (c : Dev nD) (d : Bool) : sProp 𝕄 :=
  bigSep (Finset.Ico 0 16) fun k => any (if d then peerX c else peerY c) (rC (rowIx c k))

/-- The rounds that are used of semaphore `q`. -/
abbrev Live (q r : ℕ) : Prop :=
  q < 4 ∧ r < 4 ∨ 4 ≤ q ∧ q < 10 ∧ 6 * r + (q - 4) < 32 ∨ 10 ≤ q ∧ q < 14 ∧ r < 8 ∨ 14 ≤ q ∧ r = 0

/-- What the transfer of round `r` of semaphore `q` hands. -/
def dmaPay (c : Dev nD) (q r : ℕ) : sProp 𝕄 :=
  if q < 4 then stPay m c (4 * r + q)
  else if q < 10 then loPay m c (6 * r + (q - 4))
  else if q < 14 then rePay m c (4 * r + (q - 10))
  else if q < 30 then syPay c (q - 14)
  else if q < 46 then ryPay m c (q - 30)
  else if q < 62 then sxPay m c (q - 46)
  else rxPay m c (q - 62)

/-! ## The schedule -/

/-- A barrier cell has the two duties `false` (from the peer along y) and `true` (along x), of one unit each, in round 0;
    a transfer's cell the duty `false` of the chunk's credit in every round used. -/
def Rd : Rounds.Schedule (GSem nD τ sig) Bool 𝕄 where
  duties g r := if g.1.2 = .tc then
      match g.2 with
      | .reg _ => if r = 0 then Finset.univ else ∅
      | .dma q => if Live q.val r then {false} else ∅
    else ∅
  unitless _ := False
  amount g _ _ := match g.2 with
    | .reg _ => 1
    | .dma q => if q.val < 10 then NF else NB
  payload g r d := match g.2 with
    | .reg _ => barPay g.1.1 d
    | .dma q => dmaPay m g.1.1 q.val r
  amount_pos g _ _ _ := by
    rcases g with ⟨_, _ | q⟩
    · exact Nat.one_pos
    · show 0 < if q.val < 10 then NF else NB
      split
      · exact NF_pos
      · exact NB_pos

instance barPay_storable (c : Dev nD) (d : Bool) : BI.Storable (upEmb : UEmb _ 𝕄) (barPay (F := F) c d) := by
  unfold barPay; infer_instance

instance dmaPay_storable (c : Dev nD) (q r : ℕ) : BI.Storable (upEmb : UEmb _ 𝕄) (dmaPay m c q r) := by
  unfold dmaPay stPay loPay rePay syPay ryPay sxPay rxPay xpc
  (repeat' split) <;> infer_instance

instance Rd_payload_storable (g : GSem nD τ sig) (r : ℕ) (d : Bool) : BI.Storable (upEmb : UEmb _ 𝕄) ((Rd m).payload g r d) := by
  rcases g with ⟨t, _ | q⟩
  · show BI.Storable upEmb (barPay t.1 d); infer_instance
  · show BI.Storable upEmb (dmaPay m t.1 q.val r); infer_instance

section Facts

variable (c : Dev nD) {q r : ℕ}

theorem dsem_val (hq : q < 78) : (dsem q).val = q := Nat.mod_eq_of_lt hq

theorem duties_dma (hq : q < 78) (hl : Live q r) : (Rd m).duties (dcell c q) r = {false} := by
  show (if (dcell c q).1.2 = .tc then (if Live (dsem q).val r then ({false} : Finset Bool) else ∅) else ∅) = _
  rw [dsem_val hq, if_pos rfl, if_pos hl]
theorem duties_dma_none (hq : q < 78) (hl : ¬ Live q r) : (Rd m).duties (dcell c q) r = ∅ := by
  show (if (dcell c q).1.2 = .tc then (if Live (dsem q).val r then ({false} : Finset Bool) else ∅) else ∅) = _
  rw [dsem_val hq, if_pos rfl, if_neg hl]
theorem mem_dma (hq : q < 78) (hl : Live q r) : false ∈ (Rd m).duties (dcell c q) r := by
  rw [duties_dma m c hq hl]; exact Finset.mem_singleton_self _
theorem duties_bar : (Rd m).duties (bcell c) 0 = Finset.univ := rfl
theorem duties_bar_none (hr : 1 ≤ r) : (Rd m).duties (bcell c) r = ∅ := by
  show (if (bcell c).1.2 = .tc then (if r = 0 then (Finset.univ : Finset Bool) else ∅) else ∅) = _
  rw [if_pos rfl, if_neg (by omega)]

/-- What a transfer of semaphore `q` counts. -/
abbrev amt (q : ℕ) : ℕ := if q < 10 then NF else NB

theorem amount_dma (hq : q < 78) (d : Bool) : (Rd m).amount (dcell c q) r d = amt q := by
  show (if (dsem q).val < 10 then NF else NB) = _
  rw [dsem_val hq]
theorem amount_bar (d : Bool) : (Rd m).amount (bcell c) r d = 1 := rfl

theorem expect_dma (hq : q < 78) (hl : Live q r) : (Rd m).expect (dcell c q) r = amt q := by
  unfold Schedule.expect Schedule.amountOf; rw [duties_dma m c hq hl, Finset.sum_singleton, amount_dma m c hq]
theorem expect_bar : (Rd m).expect (bcell c) 0 = 2 := by
  unfold Schedule.expect Schedule.amountOf
  rw [duties_bar, Finset.sum_congr rfl fun d _ => amount_bar m c d, Finset.sum_const, Finset.card_univ, Fintype.card_bool, smul_eq_mul]

theorem payload_dma (hq : q < 78) (d : Bool) : (Rd m).payload (dcell c q) r d = dmaPay m c q r := by
  show dmaPay m c (dsem q).val r = _
  rw [dsem_val hq]
theorem payload_bar (d : Bool) : (Rd m).payload (bcell c) r d = barPay c d := rfl

theorem rest_dma (hq : q < 78) (hl : Live q r) :
    bigSep ((Rd m).duties (dcell c q) r \ ∅) (fun d => (Rd m).payload (dcell c q) r d) = dmaPay m c q r := by
  rw [Finset.sdiff_empty, duties_dma m c hq hl, bigSep_singleton, payload_dma m c hq]
theorem rest_bar :
    bigSep ((Rd m).duties (bcell c) 0 \ ∅) (fun d => (Rd m).payload (bcell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl

end Facts

/-! ## The rounds of the chunks -/

theorem live_stage {j : ℕ} (h : j < 16) : Live (j % 4) (j / 4) := by unfold Live; omega
theorem live_local {k : ℕ} (h : k < 32) : Live (4 + k % 6) (k / 6) := by unfold Live; omega
theorem live_res {k : ℕ} (h : k < 32) : Live (10 + k % 4) (k / 4) := by unfold Live; omega
theorem live_one {q : ℕ} (h : 14 ≤ q) : Live q 0 := by unfold Live; omega

theorem pay_stage (c : Dev nD) (j : ℕ) : dmaPay m c (j % 4) (j / 4) = stPay m c j := by
  unfold dmaPay; rw [if_pos (by omega), Nat.div_add_mod]
theorem pay_local (c : Dev nD) (k : ℕ) : dmaPay m c (4 + k % 6) (k / 6) = loPay m c k := by
  unfold dmaPay; rw [if_neg (by omega), if_pos (by omega), show 6 * (k / 6) + (4 + k % 6 - 4) = k by omega]
theorem pay_res (c : Dev nD) (k : ℕ) : dmaPay m c (10 + k % 4) (k / 4) = rePay m c k := by
  unfold dmaPay; rw [if_neg (by omega), if_neg (by omega), if_pos (by omega), show 4 * (k / 4) + (10 + k % 4 - 10) = k by omega]
theorem pay_sy (c : Dev nD) {k : ℕ} (h : k < 16) : dmaPay m c (14 + k % 16) 0 = syPay c k := by
  unfold dmaPay; rw [if_neg (by omega), if_neg (by omega), if_neg (by omega), if_pos (by omega), show 14 + k % 16 - 14 = k by omega]
theorem pay_ry (c : Dev nD) {k : ℕ} (h : k < 16) : dmaPay m c (30 + k % 16) 0 = ryPay m c k := by
  unfold dmaPay
  rw [if_neg (by omega), if_neg (by omega), if_neg (by omega), if_neg (by omega), if_pos (by omega), show 30 + k % 16 - 30 = k by omega]
theorem pay_sx (c : Dev nD) {k : ℕ} (h : k < 16) : dmaPay m c (46 + k % 16) 0 = sxPay m c k := by
  unfold dmaPay
  rw [if_neg (by omega), if_neg (by omega), if_neg (by omega), if_neg (by omega), if_neg (by omega), if_pos (by omega),
    show 46 + k % 16 - 46 = k by omega]
theorem pay_rx (c : Dev nD) {k : ℕ} (h : k < 16) : dmaPay m c (62 + k % 16) 0 = rxPay m c k := by
  unfold dmaPay
  rw [if_neg (by omega), if_neg (by omega), if_neg (by omega), if_neg (by omega), if_neg (by omega), if_neg (by omega),
    show 62 + k % 16 - 62 = k by omega]

/-! ## What each core owes; the levels -/

/-- What device `c` still owes along y from chunk `j` on, and along x. -/
def OY (c : Dev nD) (j : ℕ) : CellTallies nD τ sig Unit := ∑ i ∈ Finset.Ico j 16, tallyAt (dcell (peerY c) (30 + i % 16)) () NB
def OX (c : Dev nD) (j : ℕ) : CellTallies nD τ sig Unit := ∑ i ∈ Finset.Ico j 16, tallyAt (dcell (peerX c) (62 + i % 16)) () NB
/-- What it owes on entry: both peers' barrier units too. -/
def O₁ (c : Dev nD) : CellTallies nD τ sig Unit := OY c 0 + OX c 0 + tallyAt (bcell (peerX c)) () 1
def O₀ (c : Dev nD) : CellTallies nD τ sig Unit := O₁ c + tallyAt (bcell (peerY c)) () 1

theorem sum_pop {A : Type} [AddCommMonoid A] (f : ℕ → A) {a b : ℕ} (h : a < b) :
    ∑ i ∈ Finset.Ico a b, f i = (∑ i ∈ Finset.Ico (a + 1) b, f i) + f a := by
  rw [show Finset.Ico a b = insert a (Finset.Ico (a + 1) b) from Finset.ext fun i => by
    rw [Finset.mem_insert, Finset.mem_Ico, Finset.mem_Ico]; omega, Finset.sum_insert (by rw [Finset.mem_Ico]; omega), add_comm]

theorem OY_pop (c : Dev nD) {j : ℕ} (h : j < 16) : OY c j = OY c (j + 1) + tallyAt (dcell (peerY c) (30 + j % 16)) () NB := by
  unfold OY; exact sum_pop _ h
theorem OX_pop (c : Dev nD) {j : ℕ} (h : j < 16) : OX c j = OX c (j + 1) + tallyAt (dcell (peerX c) (62 + j % 16)) () NB := by
  unfold OX; exact sum_pop _ h
theorem OY_end (c : Dev nD) : OY c 16 = 0 := by unfold OY; rw [Finset.Ico_self, Finset.sum_empty]
theorem OX_end (c : Dev nD) : OX c 16 = 0 := by unfold OX; rw [Finset.Ico_self, Finset.sum_empty]

def L (g : GSem nD τ sig) : Finset Unit := if g.1.2 = .tc then {()} else ∅
/-- Barrier cells at 1, arrivals along y at 2 and along x at 3, everything else at 0. -/
def lv (g : GSem nD τ sig) (_ : Unit) : ℕ := match g.2 with
  | .reg _ => 1
  | .dma q => if 30 ≤ q.val ∧ q.val < 46 then 2 else if 62 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_dma (c : Dev nD) {q : ℕ} (hq : q < 78) : lv (dcell c q) () = if 30 ≤ q ∧ q < 46 then 2 else if 62 ≤ q then 3 else 0 := by
  show (if 30 ≤ (dsem q).val ∧ (dsem q).val < 46 then 2 else if 62 ≤ (dsem q).val then 3 else 0) = _
  rw [dsem_val hq]

/-- All that `O` owes is owed to cells of TensorCores above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with e | e
  · exact h' g u (by omega)
  · exact h g u e
theorem Above.tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases e : g = ((c : Thread nD τ), sm) ∧ u = ()
  · rw [e.1]; exact ⟨rfl, h⟩
  · rw [if_neg e] at hg; exact absurd hg (Nat.lt_irrefl 0)
theorem Above.sum {n : ℕ} (s : Finset ℕ) (f : ℕ → CellTallies nD τ sig Unit) (h : ∀ i ∈ s, Above n (f i)) : Above n (∑ i ∈ s, f i) := by
  classical
  induction s using Finset.induction_on with
  | empty => rw [Finset.sum_empty]; exact .zero n
  | insert a s ha ih =>
    rw [Finset.sum_insert ha]
    exact (h a (Finset.mem_insert_self _ _)).add (ih fun i hi => h i (Finset.mem_insert_of_mem hi))

theorem above_OY (c : Dev nD) (j : ℕ) : Above 1 (OY c j) := .sum _ _ fun i hi => .tally _ _ _ (by
  rw [lv_dma _ (by omega), if_pos (by omega)]; decide)
theorem above_OX (c : Dev nD) (j : ℕ) : Above 2 (OX c j) := .sum _ _ fun i hi => .tally _ _ _ (by
  rw [lv_dma _ (by omega), if_neg (by omega), if_pos (by omega)]; decide)
theorem Above.le {n n' : ℕ} {O : CellTallies nD τ sig Unit} (h : Above n O) (hn : n' ≤ n) : Above n' O := fun g u hg =>
  ⟨(h g u hg).1, lt_of_le_of_lt hn (h g u hg).2⟩
theorem above_bar (c : Dev nD) (k : ℕ) : Above 0 (tallyAt (bcell c) () k) := .tally _ _ _ (by show 0 < 1; decide)
theorem above_O₀ (c : Dev nD) : Above 0 (O₀ c) :=
  ((((above_OY c 0).le (by decide)).add ((above_OX c 0).le (by decide))).add (above_bar _ _)).add (above_bar _ _)

omit [FloatOps F] in
/-- A wait below all that is owed is allowed. -/
theorem mayWait (c : Dev nD) (sm : SemLoc sig) (O : CellTallies nD τ sig Unit) (n : ℕ) (hs : lv ((c : Thread nD τ), sm) () ≤ n)
    (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs) (fun g u hg => (hO g u hg).2)

end Cert.Proof

end
-- ==== Proof.Steps.lean ====
/-
  One rule per kind of step: starting a copy, sending to a peer, waiting for a transfer.
-/
module

public import proofs.«01_k».proof.Proof.Sched

@[expose] public section

set_option maxRecDepth 65536

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every step may use: the cells' invariants and the levels -/

/-- The semaphore of number `i`: the 78 of transfers, then the barrier. -/
abbrev csem (i : Fin 79) : SemLoc sig := if i.val < 78 then .dma (dsem i.val) else .reg barS
abbrev kcell (ck : Dev nD × Fin 79) : GSem nD τ sig := ((ck.1 : Thread nD τ), csem ck.2)

/-- Every cell's invariant, at the names `K`, and that it has reached round 0. -/
def records (K : Dev nD × Fin 79 → ℕ) : sProp 𝕄 :=
  bigSep (Finset.univ : Finset (Dev nD × Fin 79)) fun ck => iprop(cellInv ER (Rd m) (K ck) (kcell ck) ∗ reached ER (kcell ck) 0)

instance records_persistent (K : Dev nD × Fin 79 → ℕ) : BI.Persistent (records m K) := by unfold records; infer_instance

def know (K : Dev nD × Fin 79 → ℕ) : sProp 𝕄 := iprop(records m K ∗ levAts L lv)

instance know_persistent (K : Dev nD × Fin 79 → ℕ) : BI.Persistent (know m K) := by unfold know; infer_instance

variable (K : Dev nD × Fin 79 → ℕ)

theorem know_dma (c : Dev nD) {q : ℕ} (hq : q < 78) :
    know m K ⊢ iprop(cellInv ER (Rd m) (K (c, ⟨q, by omega⟩)) (dcell c q) ∗ reached ER (dcell c q) 0) := by
  have e : kcell (c, (⟨q, by omega⟩ : Fin 79)) = dcell c q := by
    show ((c : Thread nD τ), if q < 78 then SemLoc.dma (dsem q) else SemLoc.reg barS) = _
    rw [if_pos hq]
  rw [← e]
  unfold know records
  exact (sep_elim_left).trans (bigSep_elim (Finset.mem_univ (c, (⟨q, by omega⟩ : Fin 79))))

theorem know_bar (c : Dev nD) :
    know m K ⊢ iprop(cellInv ER (Rd m) (K (c, ⟨78, by omega⟩)) (bcell c) ∗ reached ER (bcell c) 0) := by
  unfold know records
  exact (sep_elim_left).trans (bigSep_elim (Finset.mem_univ (c, (⟨78, by omega⟩ : Fin 79))))

theorem know_lev : know m K ⊢ levAts L lv := by unfold know; exact sep_elim_right

/-! ## A cell between its uses -/

/-- The right to wait for round `r` of semaphore `q`, a transfer for it under way; -/
def fly (c : Dev nD) (q r : ℕ) : sProp 𝕄 := iprop(cred (tallyAt (dcell c q) () (amt q)) ∗ atPos ER (dcell c q) r ∅ 0)
/-- the same, no transfer started. -/
def rdy (c : Dev nD) (q r : ℕ) : sProp 𝕄 := iprop(atPos ER (dcell c q) r ∅ 0 ∗ reached ER (dcell c q) r)
/-- The right to start the transfer of round `r`. -/
def tok (c : Dev nD) (q r : ℕ) : sProp 𝕄 := dutyTok ER (dcell c q) r false
/-- What a device owes, whatever it has waited for. -/
def owesE (c : Dev nD) (O : CellTallies nD τ sig Unit) : sProp 𝕄 := iprop(∃ W : Waits sig Unit, owes (c : Thread nD τ) O W)

/-! ## The rules -/

section Rules

variable {m K}
variable (c : Dev nD)

/-- Starting a copy within the device: its source and its destination are given up for the right to wait. -/
theorem start_copy {q r : ℕ} (hq : q < 78) (hl : Live q r) {sp sp' : Space} {s : Shape} {e : EltTy}
    {src : Memref sig .tc sp s e} {dst : Memref sig .tc sp' s e} {h1 : src.view.WordExact} {h2 : dst.view.WordExact}
    {h3 : DmaTarget.Typed (nD := nD) (τ := τ) (p := .tc) sp (.dma (dsem q)) (.here dst)} (hN : dst.view.dmaCredit = amt q)
    (fs : Buf (Elt F) (src.view.loc (c : Thread nD τ)))
    (hpay : ∀ fd : Buf (Elt F) (dst.view.loc (c : Thread nD τ)),
      iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ dmaPay m c q r) :
    Tri c (know m K) iprop((src.view.loc (c : Thread nD τ) ↦[src.view.set]{fullShare} fs) ∗ any c dst ∗ rdy c q r ∗ tok c q r)
      (Prog.lift (.enqueueDma src (.here dst) (.dma (dsem q)) h1 h2 h3)) (fly c q r) := fun Q => by
  unfold any rdy tok
  iintro ⟨#HG, ⟨Hs, ⟨%fd, Hd⟩, ⟨Hat, #Hr⟩, Ht⟩, HK⟩
  ihave Hk := (know_dma m K c hq) $$ HG
  icases Hk with ⟨#HI, #H0⟩
  simp only [Prog.lift]
  iapply (Rounds.wp_copy_pointsTo 𝒱₀ ER (Rd m) (c : Thread nD τ) none (r := r) (d := false) (fd := fd) (fs := fs) (q := fullShare)
    (κ := K (c, ⟨q, by omega⟩)) (mem_dma m c hq hl) () (amt q) hN (amount_dma m c hq false) (by rw [payload_dma m c hq]; exact hpay fd))
    $$ [Hs Hd Ht]
  · isplitr; · iexact HI
    isplitl [Hs]; · iexact Hs
    isplitl [Hd]; · iexact Hd
    isplitl [Ht]; · iexact Ht
    iexact Hr
  iintro Hc
  rw [wp_ret]; imodintro
  iapply HK
  unfold fly
  isplitl [Hc]; · iexact Hc
  iexact Hat

/-- Sending to the device `c'`: a share of the source and the destination there are given up, and a unit of what is
    owed, for the right to wait for the source. -/
theorem start_send {qs qr : ℕ} (c' : Dev nD) (hqs : qs < 78) (hqr : qr < 78) (hs : 14 ≤ qs) (hr : 14 ≤ qr) {sp sp' : Space} {s : Shape} {e : EltTy}
    {src : Memref sig .tc sp s e} {dst : Memref sig .tc sp' s e} {hsc : (dst : Memref sig (Dev.tc c' : Thread nD τ).2.kind sp' s e).view.ref.isScScratch = false}
    {h1 : src.view.WordExact} {h2 : dst.view.WordExact}
    {h3 : DmaTarget.Typed (nD := nD) (τ := τ) (p := .tc) sp (.dma (dsem qr)) (.remote (Dev.tc c' : Thread nD τ) dst (.dma (dsem qs)) hsc)}
    (hN : dst.view.dmaCredit = NB) (q : PosShare TreeShare)
    (fs : Buf (Elt F) (src.view.loc (c : Thread nD τ))) (O : CellTallies nD τ sig Unit)
    (hpay₁ : (src.view.loc (c : Thread nD τ) ↦[src.view.set]{q} fs) ⊢ dmaPay m c qs 0)
    (hpay₂ : ∀ fd : Buf (Elt F) (dst.view.loc (c' : Thread nD τ)),
      (dst.view.loc (c' : Thread nD τ) ↦[dst.view.set]{fullShare} (dst.view.write (Elt F) fd (src.view.read (Elt F) fs) Finset.univ))
        ⊢ dmaPay m c' qr 0) :
    Tri c (know m K) iprop((src.view.loc (c : Thread nD τ) ↦[src.view.set]{q} fs) ∗ any c' dst
        ∗ owesE c (O + tallyAt (dcell c' qr) () NB) ∗ rdy c qs 0 ∗ tok c qs 0 ∗ tok c' qr 0)
      (Prog.lift (.enqueueDma src (.remote (Dev.tc c' : Thread nD τ) dst (.dma (dsem qs)) hsc) (.dma (dsem qr)) h1 h2 h3))
      iprop(fly c qs 0 ∗ owesE c O) := fun Q => by
  unfold any tok owesE rdy fly
  rw [show amt qs = NB from if_neg (by omega)]
  iintro ⟨#HG, ⟨Hs, ⟨%fd, Hd⟩, ⟨%W, HO⟩, ⟨Hat, -⟩, Ht, Ht'⟩, HK⟩
  ihave Hk := (know_dma m K c hqs) $$ HG
  icases Hk with ⟨#HI, #H0⟩
  ihave Hk' := (know_dma m K c' hqr) $$ HG
  icases Hk' with ⟨#HI', #H0'⟩
  simp only [Prog.lift]
  iapply (Rounds.wp_send_pointsTo 𝒱₀ ER (Rd m) (c : Thread nD τ) none (r₁ := 0) (r₂ := 0) (d₁ := false) (d₂ := false) (fd := fd) (fs := fs) (q := q)
    (κ₁ := K (c, ⟨qs, by omega⟩)) (κ₂ := K (c', ⟨qr, by omega⟩)) (mem_dma m c hqs (live_one hs)) (mem_dma m c' hqr (live_one hr)) () () NB hN
    ((amount_dma m c hqs false).trans (if_neg (by omega))) ((amount_dma m c' hqr false).trans (if_neg (by omega))) O rfl (W := W)
    (by rw [payload_dma m c hqs]; exact hpay₁) (by rw [payload_dma m c' hqr]; exact hpay₂ fd))
    $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact H0
    isplitl [Ht']; · iexact Ht'
    iexact H0'
  iintro ⟨Hc, HO⟩
  rw [wp_ret]; imodintro
  iapply HK
  isplitl [Hc Hat]
  · isplitl [Hc]; · iexact Hc
    iexact Hat
  iexists W; iexact HO

/-- Waiting for a transfer: what it hands, and the cell at its next round. -/
theorem wait_dma {q r : ℕ} (hq : q < 78) (hl : Live q r) {sp sp' : Space} {s s' : Shape} {e e' : EltTy}
    {src : Memref sig .tc sp' s' e'} {dst : Memref sig .tc sp s e} {h1 : src.view.WordExact} {h2 : dst.view.WordExact}
    (hN : dst.view.dmaCredit = amt q) (O : CellTallies nD τ sig Unit) (n : ℕ) (hn : lv (dcell c q) () ≤ n) (hO : Above n O) :
    Tri c (know m K) iprop(fly c q r ∗ owesE c O) (Prog.lift (.waitDma2 (dsem q) src dst h1 h2))
      iprop(dmaPay m c q r ∗ rdy c q (r + 1) ∗ owesE c O) := fun Q => by
  unfold fly owesE
  iintro ⟨#HG, ⟨⟨Hc, Hat⟩, ⟨%W, HO⟩⟩, HK⟩
  ihave Hk := (know_dma m K c hq) $$ HG
  icases Hk with ⟨#HI, #H0⟩
  ihave #Hlev := (know_lev m K) $$ HG
  simp only [Prog.lift]
  iapply (Rounds.wp_wait_rest_token 𝒱₀ ER (Rd m) (c : Thread nD τ) none (κ := K (c, ⟨q, by omega⟩))
      (wpE_waitDma2_eq 𝒱₀ (c : Thread nD τ) none Set.univ) (Set.mem_univ _) () (O := O) (W := W) (R := r) (m := 0) (T := ∅)
      (by rw [Nat.zero_add, expect_dma m c hq hl]; exact hN)) $$ [Hc HO Hat]
  · isplitr; · iexact HI
    isplitl [Hc]; · rw [hN]; iexact Hc
    isplitl [HO]; · iexact HO
    isplitr; · iapply (mayWait c _ O n hn hO); iexact Hlev
    iexact Hat
  iintro ⟨HO, Hat, #Hr, Hpay⟩
  rw [wp_ret]; imodintro
  iapply HK
  isplitl [Hpay]; · iapply (Entails.of_eq (rest_dma m c hq hl)); iexact Hpay
  isplitl [Hat]
  · unfold rdy; isplitl [Hat]; · iexact Hat
    iexact Hr
  iexists _; iexact HO

end Rules

end Cert.Proof

end
-- ==== Proof.Chunks.lean ====
/-
  The steps of the body, one rule for each, over the chunk it handles.
-/
module

public import proofs.«01_k».proof.Proof.Steps
public import Idealize.ShloMosaic.Lib.Pipeline.Value

@[expose] public section

set_option maxRecDepth 65536

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What has just been written is held. -/
theorem holds_write (c : Dev nD) {sp : Space} {s : Shape} {e : EltTy} (V : Memref sig .tc sp s e)
    (fd : Buf (Elt F) (V.view.loc (c : Thread nD τ))) (v : s.Idx → Elt F e) :
    (V.view.loc (c : Thread nD τ) ↦[V.view.set]{fullShare} V.view.write (Elt F) fd v Finset.univ : sProp 𝕄) ⊢ holds m c V fullShare v :=
  holds_of m c V fullShare _ (View.read_write_univ _ _)

/-- A memref holding `v` reads `v`. -/
theorem holds_read (c : Dev nD) {sp : Space} {s : Shape} {e : EltTy} (V : Memref sig .tc sp s e) (q : PosShare TreeShare) (v : s.Idx → Elt F e) :
    holds m c V q v ⊢ iprop(∃ f : Buf (Elt F) (V.view.loc (c : Thread nD τ)), ⌜V.view.read (Elt F) f = v⌝ ∗ V.view.loc (c : Thread nD τ) ↦[V.view.set]{q} f) := by
  unfold holds
  iintro H
  iexists (V.view.write (Elt F) (m (V.view.loc (c : Thread nD τ))) v Finset.univ)
  isplitr; · ipureintro; exact View.read_write_univ _ _
  iexact H

/-! ## What each chunk's steps start from and leave -/

section Items

variable (c : Dev nD) (i : ℕ)

/-- The staging slot of chunk `i` free, -/
def stFree : sProp 𝕄 := iprop(any c (stageV i) ∗ rdy c (i % 4) (i / 4))
/-- what its load takes besides, -/
def stIn : sProp 𝕄 := if i < 16 then iprop(xpc m c (rowIx c (i % 16)) (colN c) ∗ tok c (i % 4) (i / 4)) else iprop(emp)
/-- and the slot with its load under way (past the last chunk, free). -/
def stWin : sProp 𝕄 := if i < 16 then fly c (i % 4) (i / 4) else stFree c i

/-- The same of a local slot. -/
def loFree : sProp 𝕄 := iprop(any c (localV i) ∗ rdy c (4 + i % 6) (i / 6))
def loIn : sProp 𝕄 := if i < 32 then iprop(xpc m c (rowIx c i) (colY c) ∗ tok c (4 + i % 6) (i / 6)) else iprop(emp)
def loWin : sProp 𝕄 := if i < 32 then fly c (4 + i % 6) (i / 6) else loFree c i

/-- The result slot of chunk `i` free, -/
def reFree : sProp 𝕄 := iprop(any c (resV i) ∗ rdy c (10 + i % 4) (i / 4))
/-- what writing it out takes besides, -/
def reIn : sProp 𝕄 := iprop(any c (oC (rowIx c i)) ∗ tok c (10 + i % 4) (i / 4))
/-- the slot chunk `i` will use: that of chunk `i - 4`, being written out, -/
def reWin : sProp 𝕄 := if i < 4 then reFree c i else fly c (10 + (i - 4) % 4) ((i - 4) / 4)
/-- and chunk `i - 4` of the result once it has been. -/
def reOut : sProp 𝕄 := if i < 4 then iprop(emp) else holds m c (oC (rowIx c (i - 4))) fullShare (oval m c (i - 4))

/-- What sending chunk `i` along y takes, -/
def syIn : sProp 𝕄 := iprop(any c (sendV i) ∗ any (peerY c) (rC (rowIx c i)) ∗ rdy c (14 + i % 16) 0 ∗ tok c (14 + i % 16) 0 ∗ tok (peerY c) (30 + i % 16) 0)
/-- and along x. -/
def sxIn : sProp 𝕄 := iprop(any (peerX c) (rC (rowIx c i)) ∗ rdy c (46 + i % 16) 0 ∗ tok c (46 + i % 16) 0 ∗ tok (peerX c) (62 + i % 16) 0)

end Items

section Steps

variable {m} {K : Dev nD × Fin 79 → ℕ} (c : Dev nD)

theorem fetch_pay {sp : Space} (V : Memref sig .tc sp S256x1024 .f32) (r h : ℕ) (fd : Buf (Elt F) (V.view.loc (c : Thread nD τ))) :
    iprop((V.view.loc (c : Thread nD τ) ↦[V.view.set]{fullShare} (V.view.write (Elt F) fd ((xC r h).view.read (Elt F) (m ((xC r h).view.loc (c : Thread nD τ)))) Finset.univ))
      ∗ ((xC r h).view.loc (c : Thread nD τ) ↦[(xC r h).view.set]{fullShare} m ((xC r h).view.loc (c : Thread nD τ))))
    ⊢ (iprop(holds m c V fullShare (xval m c r h) ∗ xpc m c r h) : sProp 𝕄) := by
  unfold xpc
  exact sep_mono_left (holds_write m c V fd _)

theorem tri_stageStart {j : ℕ} (hj : j < 16) :
    Tri c (know m K) iprop(stFree c j ∗ stIn m c j) (stageStart (canonOffs c) j) (stWin c j) := by
  unfold stFree stIn stWin
  rw [if_pos hj, if_pos hj]
  refine Tri.conseq ?_ (Entails.refl _) (start_copy c (by omega) (live_stage hj) (by rw [credit_stage]; exact (if_pos (by omega)).symm) _
    (fun fd => by rw [pay_stage]; exact fetch_pay c (stageV j) _ _ fd))
  unfold xpc
  iintro ⟨⟨Ha, Hr⟩, Hx, Ht⟩
  isplitl [Hx]; · iexact Hx
  isplitl [Ha]; · iexact Ha
  isplitl [Hr]; · iexact Hr
  iexact Ht

theorem tri_localStart {k : ℕ} (hk : k < 32) :
    Tri c (know m K) iprop(loFree c k ∗ loIn m c k) (localStart (canonOffs c) k) (loWin c k) := by
  unfold loFree loIn loWin
  rw [if_pos hk, if_pos hk]
  refine Tri.conseq ?_ (Entails.refl _) (start_copy c (by omega) (live_local hk) (by rw [credit_local]; exact (if_pos (by omega)).symm) _
    (fun fd => by rw [pay_local]; exact fetch_pay c (localV k) _ _ fd))
  unfold xpc
  iintro ⟨⟨Ha, Hr⟩, Hx, Ht⟩
  isplitl [Hx]; · iexact Hx
  isplitl [Ha]; · iexact Ha
  isplitl [Hr]; · iexact Hr
  iexact Ht

theorem tri_resStart {k : ℕ} (hk : k < 32) :
    Tri c (know m K) iprop(holds m c (resV k) fullShare (oval m c k) ∗ rdy c (10 + k % 4) (k / 4) ∗ reIn c k)
      (resStart (canonOffs c) k) (reWin c (k + 4)) := by
  unfold reIn reWin
  rw [if_neg (by omega), Nat.add_sub_cancel]
  unfold holds
  refine Tri.conseq ?_ (Entails.refl _) (start_copy c (src := resV k) (dst := oC (rowIx c k)) (by omega) (live_res hk) ((credit_out (rowIx c k)).trans (if_neg (by omega)).symm)
    ((resV k).view.write (Elt F) (m ((resV k).view.loc (c : Thread nD τ))) (oval m c k) Finset.univ) (fun fd => by
      rw [pay_res, View.read_write_univ]
      unfold rePay
      exact BIClass.sep_mono (holds_write m c _ fd _) (any_of c _ _)))
  iintro ⟨Hs, Hr, Ho, Ht⟩
  isplitl [Hs]; · iexact Hs
  isplitl [Ho]; · iexact Ho
  isplitl [Hr]; · iexact Hr
  iexact Ht

theorem tri_sendY {j : ℕ} (hj : j < 16) (O : CellTallies nD τ sig Unit) :
    Tri c (know m K) iprop(holds m c (sendV j) fullShare (sval m c j) ∗ any (peerY c) (rC (rowIx c j)) ∗ owesE c (OY c j + O)
        ∗ rdy c (14 + j % 16) 0 ∗ tok c (14 + j % 16) 0 ∗ tok (peerY c) (30 + j % 16) 0)
      (sendY (canonOffs c) j) iprop(fly c (14 + j % 16) 0 ∗ owesE c (OY c (j + 1) + O)) := by
  rw [OY_pop c hj, add_right_comm]
  unfold holds
  exact start_send c (src := sendV j) (dst := rC (rowIx c j)) (peerY c) (by omega) (by omega) (by omega) (by omega) (credit_recv _) fullShare _ _
    (by rw [pay_sy m c hj]; exact any_of c _ _)
    (fun fd => by
      rw [pay_ry m (peerY c) hj, View.read_write_univ, sval_eq m c hj]
      unfold ryPay
      rw [rowIx_peerY]
      exact holds_write m (peerY c) (rC (rowIx c j)) fd _)

theorem tri_sendX {k : ℕ} (hk : k < 16) :
    Tri c (know m K) iprop(holds m c (rC (rowIx c k)) fullShare.left (rval m c k) ∗ owesE c (OX c k) ∗ sxIn c k)
      (sendX (canonOffs c) k) iprop(fly c (46 + k % 16) 0 ∗ owesE c (OX c (k + 1))) := by
  rw [OX_pop c hk]
  unfold sxIn holds
  refine Tri.conseq ?_ (Entails.refl _) (start_send c (src := rC (rowIx c k)) (dst := rC (rowIx c k)) (peerX c) (by omega) (by omega) (by omega) (by omega) (credit_recv _) fullShare.left _ _
    (by rw [pay_sx m c hk]; exact Entails.refl _)
    (fun fd => by
      rw [pay_rx m (peerX c) hk, View.read_write_univ, rval_eq m c hk]
      unfold rxPay
      rw [rowIx_peerX_add c hk]
      exact holds_write m (peerX c) (rC (rowIx c k)) fd _))
  iintro ⟨Hs, HO, Ha, Hr, Ht, Ht'⟩
  isplitl [Hs]; · iexact Hs
  isplitl [Ha]; · iexact Ha
  isplitl [HO]; · iexact HO
  isplitl [Hr]; · iexact Hr
  isplitl [Ht]; · iexact Ht
  iexact Ht'

variable {O : CellTallies nD τ sig Unit}

theorem tri_stageWait {j : ℕ} (hj : j < 16) (hO : Above 0 O) :
    Tri c (know m K) iprop(stWin c j ∗ owesE c O) (stageWait (canonOffs c) j) iprop(stPay m c j ∗ rdy c (j % 4) (j / 4 + 1) ∗ owesE c O) := by
  unfold stWin
  rw [if_pos hj, ← pay_stage]
  exact wait_dma c (by omega) (live_stage hj) (by rw [credit_stage]; exact (if_pos (by omega)).symm) O 0
    (by rw [lv_dma c (by omega), if_neg (by omega), if_neg (by omega)]) hO

theorem tri_localWait {k : ℕ} (hk : k < 32) (hO : Above 0 O) :
    Tri c (know m K) iprop(loWin c k ∗ owesE c O) (localWait (canonOffs c) k) iprop(loPay m c k ∗ rdy c (4 + k % 6) (k / 6 + 1) ∗ owesE c O) := by
  unfold loWin
  rw [if_pos hk, ← pay_local]
  exact wait_dma c (by omega) (live_local hk) (by rw [credit_local]; exact (if_pos (by omega)).symm) O 0
    (by rw [lv_dma c (by omega), if_neg (by omega), if_neg (by omega)]) hO

/-- Waiting until chunk `k` of the result is out frees its slot for chunk `k + 4`. -/
theorem tri_resWait {k : ℕ} (hk : k < 32) (hO : Above 0 O) :
    Tri c (know m K) iprop(reWin c (k + 4) ∗ owesE c O) (resWait (canonOffs c) k) iprop(reFree c (k + 4) ∗ reOut m c (k + 4) ∗ owesE c O) := by
  unfold reWin reOut reFree
  rw [if_neg (by omega), if_neg (by omega), Nat.add_sub_cancel]
  refine Tri.conseq (Entails.refl _) ?_ (wait_dma c (by omega) (live_res hk) ((credit_out (rowIx c k)).trans (if_neg (by omega)).symm) O 0
    (by rw [lv_dma c (by omega), if_neg (by omega), if_neg (by omega)]) hO)
  rw [pay_res, show (k + 4) % 4 = k % 4 by omega, show (k + 4) / 4 = k / 4 + 1 by omega, resV_congr (show (k + 4) % 4 = k % 4 by omega)]
  unfold rePay
  iintro ⟨⟨Ho, Ha⟩, Hr, HO⟩
  isplitl [Ha Hr]
  · isplitl [Ha]; · iexact Ha
    iexact Hr
  isplitl [Ho]; · iexact Ho
  iexact HO

theorem tri_recvYWait {k : ℕ} (hk : k < 16) (hO : Above 2 O) :
    Tri c (know m K) iprop(fly c (30 + k % 16) 0 ∗ owesE c O) (recvYWait (canonOffs c) k) iprop(ryPay m c k ∗ rdy c (30 + k % 16) 1 ∗ owesE c O) := by
  rw [← pay_ry m c hk]
  exact wait_dma c (by omega) (live_one (by omega)) (by exact (if_neg (by omega)).symm) O 2
    (by rw [lv_dma c (by omega), if_pos (by omega)]) hO

theorem tri_recvXWait {k : ℕ} (hk : k < 16) :
    Tri c (know m K) iprop(fly c (62 + k % 16) 0 ∗ owesE c 0) (xWait (canonOffs c) (62 + k % 16) k) iprop(rxPay m c k ∗ rdy c (62 + k % 16) 1 ∗ owesE c 0) := by
  rw [← pay_rx m c hk]
  exact wait_dma c (by omega) (live_one (by omega)) (by exact (if_neg (by omega)).symm) 0 3
    (by rw [lv_dma c (by omega), if_neg (by omega), if_pos (by omega)]) (.zero 3)

theorem tri_sentXWait {k : ℕ} (hk : k < 16) :
    Tri c (know m K) iprop(fly c (46 + k % 16) 0 ∗ owesE c 0) (xWait (canonOffs c) (46 + k % 16) k) iprop(sxPay m c k ∗ rdy c (46 + k % 16) 1 ∗ owesE c 0) := by
  rw [← pay_sx m c hk]
  exact wait_dma c (by omega) (live_one (by omega)) (by exact (if_neg (by omega)).symm) 0 0
    (by rw [lv_dma c (by omega), if_neg (by omega), if_neg (by omega)]) (.zero 0)

theorem tri_sentYWait {k : ℕ} (hk : k < 16) :
    Tri c (know m K) iprop(fly c (14 + k % 16) 0 ∗ owesE c 0) (sentYWait (canonOffs c) k) iprop(syPay c k ∗ rdy c (14 + k % 16) 1 ∗ owesE c 0) := by
  rw [← pay_sy m c hk]
  exact wait_dma c (by omega) (live_one (by omega)) (by exact (if_neg (by omega)).symm) 0 0
    (by rw [lv_dma c (by omega), if_neg (by omega), if_neg (by omega)]) (.zero 0)

end Steps

end Cert.Proof

end
-- ==== Proof.Compute.lean ====
/-
  The steps that compute: rounding a chunk to be sent, and adding a received chunk to a local one.
-/
module

public import proofs.«01_k».proof.Proof.Chunks

@[expose] public section

set_option maxRecDepth 65536

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 79 → ℕ} (c : Dev nD)

/-! ## A slot is read and written as 256 rows by 1024 columns -/

theorem round_eq (j : ℕ) (f : Buf (Elt F) ((stageV j).view.loc (c : Thread nD τ))) :
    k0_pay1 (((stageM).access (stageR j)).read (Elt F) f) = rnd ((stageV j).view.read (Elt F) f) := by
  unfold k0_pay1
  exact shapeCast_self _ _

theorem add_eq (k : ℕ) (f : Buf (Elt F) ((localV k).view.loc (c : Thread nD τ))) (w : FVec F S256x1024 .bf16) :
    addPay (((localM).access (localR k)).read (Elt F) f) w
      = shapeCast S1x256x1024 (addv ((localV k).view.read (Elt F) f) w) shapeCasts_S256x1024_S1x256x1024 := rfl

theorem stored_eq (k : ℕ) (f : Buf (Elt F) ((resV k).view.loc (c : Thread nD τ))) (w : FVec F S256x1024 .bf16) :
    (resV k).view.read (Elt F) (((resM).access (stageR k)).write (Elt F) f (shapeCast S1x256x1024 w shapeCasts_S256x1024_S1x256x1024) Finset.univ) = w := by
  show shapeCast S256x1024 (((resM).access (stageR k)).read (Elt F) (((resM).access (stageR k)).write (Elt F) f (shapeCast S1x256x1024 w shapeCasts_S256x1024_S1x256x1024) Finset.univ))
    shapeCasts_S1x256x1024_S256x1024 = w
  rw [View.read_write_univ]
  exact shapeCast_shapeCast _ _ _

/-! ## The steps -/

theorem any_elim {sp : Space} {s : Shape} {e : EltTy} (V : Memref sig .tc sp s e) :
    any c V ⊢ (iprop(∃ f : Buf (Elt F) (V.view.loc (c : Thread nD τ)), V.view.loc (c : Thread nD τ) ↦[V.view.set]{fullShare} f) : sProp 𝕄) := by
  unfold any; exact Entails.refl _

theorem tri_stageRound (j : ℕ) (v : FVec F S256x1024 .f32) :
    Tri c (know m K) iprop(holds m c (stageV j) fullShare v ∗ any c (sendV j)) (stageRound j)
      iprop(any c (stageV j) ∗ holds m c (sendV j) fullShare (rnd v)) := fun Q => by
  unfold stageRound
  simp only [Prog.lift, Prog.bind_op, Prog.bind_ret, Prog.pure_eq_ret]
  iintro ⟨-, ⟨Hs, Hd⟩, HK⟩
  ihave Hs' := (holds_read m c _ _ _) $$ Hs
  icases Hs' with ⟨%f, %hf, Hs⟩
  ihave Hd' := (any_elim c (sendV j)) $$ Hd
  icases Hd' with ⟨%g, Hd⟩
  iapply (wp_load_rect 𝒱₀ (c : Thread nD τ) none Set.univ (m := stageM) (r := stageR j) (S := (stageV j).view.set)
    (by rw [View.set_reshape])) $$ Hs
  iintro Hs
  iapply (wp_load_rect 𝒱₀ (c : Thread nD τ) none Set.univ (m := sendM) (r := sendR j) (S := (sendV j).view.set) subset_rfl) $$ Hd
  iintro Hd
  iapply (wp_store 𝒱₀ (c : Thread nD τ) none Set.univ (m := sendM) (r := sendR j) (Mk := Finset.univ) (S := (sendV j).view.set) subset_rfl) $$ Hd
  iintro Hd
  rw [wp_ret]; imodintro
  iapply HK
  isplitl [Hs]; · iapply (any_of c (stageV j) f); iexact Hs
  iapply (holds_of m c (sendV j) fullShare _ ((View.read_write_univ _ _).trans ((round_eq c j f).trans (by rw [hf]))))
  iexact Hd

theorem tri_addStore (k : ℕ) (f : Buf (Elt F) ((localV k).view.loc (c : Thread nD τ))) (w : FVec F S256x1024 .bf16) :
    Tri c (know m K) (any c (resV k)) (addStore k (((localM).access (localR k)).read (Elt F) f) w)
      (holds m c (resV k) fullShare (addv ((localV k).view.read (Elt F) f) w)) := fun Q => by
  unfold addStore
  simp only [Prog.lift, Prog.bind_op, Prog.bind_ret, Prog.pure_eq_ret]
  iintro ⟨-, Hd, HK⟩
  ihave Hd' := (any_elim c (resV k)) $$ Hd
  icases Hd' with ⟨%g, Hd⟩
  iapply (wp_load_rect 𝒱₀ (c : Thread nD τ) none Set.univ (m := resM) (r := stageR k) (S := (resV k).view.set)
    (by rw [View.set_reshape])) $$ Hd
  iintro Hd
  iapply (wp_store 𝒱₀ (c : Thread nD τ) none Set.univ (m := resM) (r := stageR k) (Mk := Finset.univ) (S := (resV k).view.set)
    (by rw [View.set_reshape]; exact subset_rfl)) $$ Hd
  iintro Hd
  rw [wp_ret]; imodintro
  iapply HK
  rw [add_eq c]
  iapply (holds_of m c (resV k) fullShare _ (stored_eq c k g _))
  iexact Hd

/-- Waiting for the result slot. -/
theorem tri_resReady {k : ℕ} (hk : k < 32) {O : CellTallies nD τ sig Unit} (hO : Above 0 O) :
    Tri c (know m K) iprop(reWin c k ∗ owesE c O) (resReady (canonOffs c) k) iprop(reFree c k ∗ reOut m c k ∗ owesE c O) := by
  unfold resReady
  by_cases h : 4 ≤ k
  · rw [if_pos h]
    have := tri_resWait (m := m) (K := K) c (k := k - 4) (by omega) hO
    rwa [Nat.sub_add_cancel h] at this
  · rw [if_neg h]
    unfold reWin reOut
    rw [if_pos (by omega), if_pos (by omega)]
    refine Tri.conseq (Entails.refl _) ?_ Tri.skip
    iintro ⟨Hf, HO⟩
    isplitl [Hf]; · iexact Hf
    isplitr; · iempintro
    iexact HO

/-- Loading into the local slot freed. -/
theorem tri_localNext (k : ℕ) :
    Tri c (know m K) iprop(loFree c (k + 6) ∗ loIn m c (k + 6)) (localNext (canonOffs c) k) (loWin c (k + 6)) := by
  unfold localNext
  by_cases h : k + 6 < 32
  · rw [if_pos h]; exact tri_localStart c h
  · rw [if_neg h]
    unfold loWin loIn
    rw [if_neg h, if_neg h]
    exact Tri.conseq (by iintro ⟨H, -⟩; iexact H) (Entails.refl _) Tri.skip

/-- Loading into the staging slot freed. -/
theorem tri_stageNext (j : ℕ) :
    Tri c (know m K) iprop(stFree c (j + 4) ∗ stIn m c (j + 4)) (stageNext (canonOffs c) j) (stWin c (j + 4)) := by
  unfold stageNext
  by_cases h : j + 4 < 16
  · rw [if_pos h]; exact tri_stageStart c h
  · rw [if_neg h]
    unfold stWin stIn
    rw [if_neg h, if_neg h]
    exact Tri.conseq (by iintro ⟨H, -⟩; iexact H) (Entails.refl _) Tri.skip

/-- The slot of chunk `k` is that of chunk `k + 6`, -/
theorem loFree_next (k : ℕ) : iprop(any c (localV k) ∗ rdy c (4 + k % 6) (k / 6 + 1)) = (loFree c (k + 6) : sProp 𝕄) := by
  unfold loFree
  rw [show (k + 6) % 6 = k % 6 by omega, show (k + 6) / 6 = k / 6 + 1 by omega, localV_congr (show (k + 6) % 6 = k % 6 by omega)]
/-- and the staging slot of chunk `j` that of chunk `j + 4`. -/
theorem stFree_next (j : ℕ) : iprop(any c (stageV j) ∗ rdy c (j % 4) (j / 4 + 1)) = (stFree c (j + 4) : sProp 𝕄) := by
  unfold stFree
  rw [show (j + 4) % 4 = j % 4 by omega, show (j + 4) / 4 = j / 4 + 1 by omega, stageV_congr (show (j + 4) % 4 = j % 4 by omega)]

/-- Adding chunk `k`. -/
theorem tri_process {k : ℕ} (hk : k < 32) (q : PosShare TreeShare) {O : CellTallies nD τ sig Unit} (hO : Above 0 O) :
    Tri c (know m K)
      iprop(loWin c k ∗ loIn m c (k + 6) ∗ reWin c k ∗ reIn c k ∗ holds m c (rC (rowIx c k)) q (rval m c k) ∗ owesE c O)
      (process (canonOffs c) k)
      iprop(loWin c (k + 6) ∗ xpc m c (rowIx c k) (colY c) ∗ reWin c (k + 4) ∗ reOut m c k ∗ holds m c (rC (rowIx c k)) q (rval m c k) ∗ owesE c O) := fun Q => by
  unfold process
  rw [wp_bind]
  iintro ⟨#HG, ⟨Hlw, Hli, Hrw, Hri, Hrc, HO⟩, HK⟩
  iapply (tri_localWait c hk hO _)
  isplitr; · iexact HG
  isplitl [Hlw HO]
  · isplitl [Hlw]; · iexact Hlw
    iexact HO
  unfold loPay
  iintro ⟨⟨Hl, Hx⟩, Hr, HO⟩
  simp only [Prog.lift, Prog.bind_op, Prog.bind_ret]
  ihave Hl' := (holds_read m c _ _ _) $$ Hl
  icases Hl' with ⟨%f, %hf, Hl⟩
  ihave Hrc' := (holds_read m c _ _ _) $$ Hrc
  icases Hrc' with ⟨%g, %hg, Hrc⟩
  iapply (wp_load_rect 𝒱₀ (c : Thread nD τ) none Set.univ (m := localM) (r := localR k) (S := (localV k).view.set)
    (by rw [View.set_reshape])) $$ Hl
  iintro Hl
  iapply (wp_load_rect 𝒱₀ (c : Thread nD τ) none Set.univ (m := recvM) (r := rowR (offR (rowIx c k)) (offR_inb _)) (S := (rC (rowIx c k)).view.set)
    subset_rfl) $$ Hrc
  iintro Hrc
  rw [show ((recvM).access (rowR (offR (rowIx c k)) (offR_inb (rowIx c k)))).read (Elt F) g = rval m c k from hg]
  rw [wp_bind]
  iapply (tri_resReady c hk hO _)
  isplitr; · iexact HG
  isplitl [Hrw HO]
  · isplitl [Hrw]; · iexact Hrw
    iexact HO
  unfold reFree
  iintro ⟨⟨Hra, Hrr⟩, Hro, HO⟩
  rw [wp_bind]
  iapply (tri_addStore c k f _ _)
  isplitr; · iexact HG
  isplitl [Hra]; · iexact Hra
  rw [hf]
  iintro Hra
  rw [wp_bind]
  iapply (tri_resStart c hk _)
  isplitr; · iexact HG
  isplitl [Hra Hrr Hri]
  · isplitl [Hra]; · iexact Hra
    isplitl [Hrr]; · iexact Hrr
    iexact Hri
  iintro Hrw
  iapply (tri_localNext c k _)
  isplitr; · iexact HG
  isplitl [Hl Hr Hli]
  · isplitl [Hl Hr]
    · rw [← loFree_next]
      isplitl [Hl]; · iapply (any_of c (localV k) f); iexact Hl
      iexact Hr
    iexact Hli
  iintro Hlw
  iapply HK
  isplitl [Hlw]; · iexact Hlw
  isplitl [Hx]; · iexact Hx
  isplitl [Hrw]; · iexact Hrw
  isplitl [Hro]; · iexact Hro
  isplitl [Hrc]; · iapply (holds_of m c _ q g hg); iexact Hrc
  iexact HO

end Cert.Proof

end
-- ==== Proof.Loops.lean ====
/-
  The loops of the body: one step of each over the chunk it handles, then the loop over all its chunks.
-/
module

public import proofs.«01_k».proof.Proof.Compute

@[expose] public section

set_option maxRecDepth 65536

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Loops over items and over windows of slots -/

section Gen

variable {c : Dev nD} {Γ : sProp (MT nD τ sig Unit (Elt F) ℕ UU ℕ)} [BI.Persistent Γ]

/-- Every step uses one item up and leaves one; the rest is carried along. -/
theorem Tri.items {f : ℕ → TProg F} (A B J : ℕ → sProp 𝕄) (a n : ℕ)
    (h : ∀ i, a ≤ i → i < a + n → Tri c Γ iprop(A i ∗ J i) (f i) iprop(B i ∗ J (i + 1))) :
    Tri c Γ iprop(bigSep (Finset.Ico a (a + n)) A ∗ J a) (Cert.Proof.loop f a n) iprop(bigSep (Finset.Ico a (a + n)) B ∗ J (a + n)) := by
  have := Tri.loop (c := c) (Γ := Γ) (f := f)
    (I := fun i => iprop(bigSep (Finset.Ico i (a + n)) A ∗ bigSep (Finset.Ico a i) B ∗ J i)) n a (fun i h1 h2 => by
      refine Tri.conseq ?_ ?_ ((h i h1 h2).frame iprop(bigSep (Finset.Ico (i + 1) (a + n)) A ∗ bigSep (Finset.Ico a i) B))
      · rw [ico_pop A h2]
        iintro ⟨⟨Ha, HA⟩, HB, HJ⟩
        isplitl [Ha HJ]
        · isplitl [Ha]; · iexact Ha
          iexact HJ
        isplitl [HA]; · iexact HA
        iexact HB
      · rw [ico_push B h1]
        iintro ⟨⟨Hb, HJ⟩, HA, HB⟩
        isplitl [HA]; · iexact HA
        isplitl [HB Hb]
        · isplitl [HB]; · iexact HB
          iexact Hb
        iexact HJ)
  refine Tri.conseq ?_ ?_ this
  · rw [ico_nil B le_rfl]
    iintro ⟨HA, HJ⟩
    isplitl [HA]; · iexact HA
    isplitr; · iempintro
    iexact HJ
  · iintro ⟨-, HB, HJ⟩
    isplitl [HB]; · iexact HB
    iexact HJ

/-- A step on the first of `n` slots, leaving the slot for its next use. -/
theorem Tri.window {p : TProg F} {A B J J' : sProp 𝕄} (W : ℕ → sProp 𝕄) (n k : ℕ) (hn : 0 < n)
    (h : Tri c Γ iprop(A ∗ W k ∗ J) p iprop(B ∗ W (k + n) ∗ J')) :
    Tri c Γ iprop(A ∗ bigSep (Finset.Ico k (k + n)) W ∗ J) p iprop(B ∗ bigSep (Finset.Ico (k + 1) (k + 1 + n)) W ∗ J') := by
  refine Tri.conseq ?_ ?_ (h.frame (bigSep (Finset.Ico (k + 1) (k + n)) W))
  · rw [ico_pop W (show k < k + n by omega)]
    iintro ⟨HA, ⟨Hw, HW⟩, HJ⟩
    isplitr [HW]
    · isplitl [HA]; · iexact HA
      isplitl [Hw]; · iexact Hw
      iexact HJ
    iexact HW
  · rw [show k + 1 + n = k + n + 1 by omega, ico_push W (show k + 1 ≤ k + n by omega)]
    iintro ⟨⟨HB, Hw, HJ⟩, HW⟩
    isplitl [HB]; · iexact HB
    isplitl [HW Hw]
    · isplitl [HW]; · iexact HW
      iexact Hw
    iexact HJ

end Gen

variable {m : (ℓ : Loc nD τ sig) → Buf (Elt F) ℓ} {K : Dev nD × Fin 79 → ℕ} (c : Dev nD)

/-! ## The barrier -/

theorem tri_barrier :
    Tri c (know m K)
      iprop((bigSep (Finset.Ico 0 16) fun k => any c (rC (rowIx c k))) ∗ (bigSep (Finset.Ico 0 16) fun k => any c (rC (rowIx c (16 + k))))
        ∗ dutyTok ER (bcell (peerY c)) 0 false ∗ dutyTok ER (bcell (peerX c)) 0 true
        ∗ cred (tallyAt (bcell c) () 2) ∗ atPos ER (bcell c) 0 ∅ 0 ∗ owesE c (O₀ c))
      (barrierStep (canonOffs c))
      iprop((bigSep (Finset.Ico 0 16) fun k => any (peerY c) (rC (rowIx c k))) ∗ (bigSep (Finset.Ico 0 16) fun k => any (peerX c) (rC (rowIx c k)))
        ∗ atPos ER (bcell c) 1 ∅ 0 ∗ owesE c (OY c 0 + OX c 0)) := fun Q => by
  unfold barrierStep owesE
  simp only [semSignalWord, semWaitWord, Prog.lift, Prog.bind_op, Prog.bind_ret, Prog.pure_eq_ret]
  iintro ⟨#HG, ⟨Hy, Hx, Hty, Htx, Hc, Hat, ⟨%W, HO⟩⟩, HK⟩
  ihave Hk := (know_bar m K (peerY c)) $$ HG
  icases Hk with ⟨#HIy, #Hry⟩
  ihave Hk := (know_bar m K (peerX c)) $$ HG
  icases Hk with ⟨#HIx, #Hrx⟩
  ihave Hk := (know_bar m K c) $$ HG
  icases Hk with ⟨#HI, #Hr⟩
  ihave #Hlev := (know_lev m K) $$ HG
  iapply (Rounds.wp_signal 𝒱₀ ER (Rd m) (c : Thread nD τ) none (dst := (peerY c : Thread nD τ)) (κ := K (peerY c, ⟨78, by omega⟩))
      (d := false) (by rw [duties_bar]; exact Finset.mem_univ _) ((amount_bar m (peerY c) false).trans (by decide)) () (O₁ c) rfl)
    $$ [HO Hty Hy]
  · isplitr; · iexact HIy
    isplitl [HO]; · iexact HO
    isplitl [Hty]; · iexact Hty
    isplitl [Hy]
    · rw [payload_bar]; unfold barPay
      simp only [peerY_peerY, rowIx_peerY, Bool.false_eq_true, if_false]
      iexact Hy
    iexact Hry
  iintro HO
  unfold O₁
  iapply (Rounds.wp_signal 𝒱₀ ER (Rd m) (c : Thread nD τ) none (dst := (peerX c : Thread nD τ)) (κ := K (peerX c, ⟨78, by omega⟩))
      (d := true) (by rw [duties_bar]; exact Finset.mem_univ _) ((amount_bar m (peerX c) true).trans (by decide)) () (OY c 0 + OX c 0) rfl)
    $$ [HO Htx Hx]
  · isplitr; · iexact HIx
    isplitl [HO]; · iexact HO
    isplitl [Htx]; · iexact Htx
    isplitl [Hx]
    · rw [payload_bar]; unfold barPay
      simp only [if_true, peerX_peerX]
      iapply (ico_mono (fun k _ hk => Entails.of_eq (by rw [rowIx_peerX c hk])))
      iexact Hx
    iexact Hrx
  iintro HO
  iapply (Rounds.wp_wait_rest_token 𝒱₀ ER (Rd m) (c : Thread nD τ) none (κ := K (c, ⟨78, by omega⟩))
      (wpE_semWait_eq 𝒱₀ (c : Thread nD τ) none Set.univ) (Set.mem_univ _) () (O := OY c 0 + OX c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait c _ _ 1 le_rfl ((above_OY c 0).add ((above_OX c 0).le (by decide)))); iexact Hlev
    iexact Hat
  iintro ⟨HO, Hat, -, Hpay⟩
  ihave Hp := (Entails.of_eq (rest_bar m c)) $$ Hpay
  unfold barPay
  simp only [Bool.false_eq_true, if_false, if_true]
  icases Hp with ⟨Hy, Hx⟩
  rw [wp_ret]; imodintro
  iapply HK
  isplitl [Hy]; · iexact Hy
  isplitl [Hx]; · iexact Hx
  isplitl [Hat]; · iexact Hat
  iexists _; iexact HO

/-! ## The sending loop -/

theorem tri_stageStep {j : ℕ} (hj : j < 16) :
    Tri c (know m K) iprop((stIn m c (4 + j) ∗ syIn c j) ∗ stWin c j ∗ owesE c (OY c j + OX c 0))
      (stageStep (canonOffs c) j)
      iprop((xpc m c (rowIx c (j % 16)) (colN c) ∗ fly c (14 + j % 16) 0) ∗ stWin c (j + 4) ∗ owesE c (OY c (j + 1) + OX c 0)) := fun Q => by
  unfold stageStep syIn
  rw [wp_bind, add_comm 4 j]
  iintro ⟨#HG, ⟨⟨Hin, Ha, Hp, Hr, Ht, Ht'⟩, Hw, HO⟩, HK⟩
  iapply (tri_stageWait c hj (((above_OY c j).le (by decide)).add ((above_OX c 0).le (by decide))) _)
  isplitr; · iexact HG
  isplitl [Hw HO]
  · isplitl [Hw]; · iexact Hw
    iexact HO
  unfold stPay
  iintro ⟨⟨Hs, Hx⟩, Hrs, HO⟩
  rw [wp_bind]
  iapply (tri_stageRound c j _ _)
  isplitr; · iexact HG
  isplitl [Hs Ha]
  · isplitl [Hs]; · iexact Hs
    iexact Ha
  iintro ⟨Hs, Ha⟩
  rw [wp_bind]
  iapply (tri_stageNext c j _)
  isplitr; · iexact HG
  isplitl [Hs Hrs Hin]
  · isplitr [Hin]
    · rw [← stFree_next]
      isplitl [Hs]; · iexact Hs
      iexact Hrs
    iexact Hin
  iintro Hw
  iapply (tri_sendY c hj (OX c 0) _)
  isplitr; · iexact HG
  isplitl [Ha Hp HO Hr Ht Ht']
  · isplitl [Ha]; · unfold sval; iexact Ha
    isplitl [Hp]; · iexact Hp
    isplitl [HO]; · iexact HO
    isplitl [Hr]; · iexact Hr
    isplitl [Ht]; · iexact Ht
    iexact Ht'
  iintro ⟨Hf, HO⟩
  iapply HK
  isplitl [Hx Hf]
  · isplitl [Hx]; · iexact Hx
    iexact Hf
  isplitl [Hw]; · iexact Hw
  iexact HO

/-! ## The adding loops -/

theorem tri_ownStep {k : ℕ} (hk : k < 16) :
    Tri c (know m K)
      iprop((fly c (30 + k % 16) 0 ∗ sxIn c k ∗ loIn m c (6 + k) ∗ reIn c k) ∗ loWin c k ∗ reWin c k ∗ owesE c (OX c k))
      (ownStep (canonOffs c) k)
      iprop((rdy c (30 + k % 16) 1 ∗ fly c (46 + k % 16) 0 ∗ holds m c (rC (rowIx c k)) fullShare.right (rval m c k)
          ∗ xpc m c (rowIx c k) (colY c) ∗ reOut m c k) ∗ loWin c (k + 6) ∗ reWin c (k + 4) ∗ owesE c (OX c (k + 1))) := fun Q => by
  unfold ownStep
  rw [wp_bind, add_comm 6 k]
  iintro ⟨#HG, ⟨⟨Hf, Hsx, Hli, Hri⟩, Hlw, Hrw, HO⟩, HK⟩
  iapply (tri_recvYWait c hk (above_OX c k) _)
  isplitr; · iexact HG
  isplitl [Hf HO]
  · isplitl [Hf]; · iexact Hf
    iexact HO
  unfold ryPay
  iintro ⟨Hrc, Hry, HO⟩
  ihave Hh := (holds_halves m c _ _).1 $$ Hrc
  icases Hh with ⟨Hleft, Hright⟩
  rw [wp_bind]
  iapply (tri_sendX c hk _)
  isplitr; · iexact HG
  isplitl [Hleft HO Hsx]
  · isplitl [Hleft]; · iexact Hleft
    isplitl [HO]; · iexact HO
    iexact Hsx
  iintro ⟨Hf, HO⟩
  iapply (tri_process c (by omega) fullShare.right ((above_OX c (k + 1)).le (by decide)) _)
  isplitr; · iexact HG
  isplitl [Hlw Hli Hrw Hri Hright HO]
  · isplitl [Hlw]; · iexact Hlw
    isplitl [Hli]; · iexact Hli
    isplitl [Hrw]; · iexact Hrw
    isplitl [Hri]; · iexact Hri
    isplitl [Hright]; · iexact Hright
    iexact HO
  iintro ⟨Hlw, Hx, Hrw, Hro, Hright, HO⟩
  iapply HK
  isplitl [Hry Hf Hright Hx Hro]
  · isplitl [Hry]; · iexact Hry
    isplitl [Hf]; · iexact Hf
    isplitl [Hright]; · iexact Hright
    isplitl [Hx]; · iexact Hx
    iexact Hro
  isplitl [Hlw]; · iexact Hlw
  isplitl [Hrw]; · iexact Hrw
  iexact HO

theorem tri_otherStep {k : ℕ} (hk : k < 16) :
    Tri c (know m K)
      iprop((fly c (62 + k % 16) 0 ∗ loIn m c (22 + k) ∗ reIn c (16 + k)) ∗ loWin c (16 + k) ∗ reWin c (16 + k) ∗ owesE c 0)
      (otherStep (canonOffs c) k)
      iprop((rdy c (62 + k % 16) 1 ∗ holds m c (rC (rowIx c (16 + k))) fullShare (rval m c (16 + k))
          ∗ xpc m c (rowIx c (16 + k)) (colY c) ∗ reOut m c (16 + k)) ∗ loWin c (16 + k + 6) ∗ reWin c (16 + k + 4) ∗ owesE c 0) := fun Q => by
  unfold otherStep
  rw [wp_bind, show 22 + k = 16 + k + 6 by omega]
  iintro ⟨#HG, ⟨⟨Hf, Hli, Hri⟩, Hlw, Hrw, HO⟩, HK⟩
  iapply (tri_recvXWait c hk _)
  isplitr; · iexact HG
  isplitl [Hf HO]
  · isplitl [Hf]; · iexact Hf
    iexact HO
  unfold rxPay
  iintro ⟨Hrc, Hrx, HO⟩
  iapply (tri_process c (by omega) fullShare (.zero 0) _)
  isplitr; · iexact HG
  isplitl [Hlw Hli Hrw Hri Hrc HO]
  · isplitl [Hlw]; · iexact Hlw
    isplitl [Hli]; · iexact Hli
    isplitl [Hrw]; · iexact Hrw
    isplitl [Hri]; · iexact Hri
    isplitl [Hrc]; · iexact Hrc
    iexact HO
  iintro ⟨Hlw, Hx, Hrw, Hro, Hrc, HO⟩
  iapply HK
  isplitl [Hrx Hrc Hx Hro]
  · isplitl [Hrx]; · iexact Hrx
    isplitl [Hrc]; · iexact Hrc
    isplitl [Hx]; · iexact Hx
    iexact Hro
  isplitl [Hlw]; · iexact Hlw
  isplitl [Hrw]; · iexact Hrw
  iexact HO

/-! ## The closing loop -/

theorem tri_sentStep {k : ℕ} (hk : k < 16) :
    Tri c (know m K)
      iprop((fly c (14 + k % 16) 0 ∗ fly c (46 + k % 16) 0 ∗ holds m c (rC (rowIx c k)) fullShare.right (rval m c k)) ∗ owesE c 0)
      (sentStep (canonOffs c) k)
      iprop((rdy c (14 + k % 16) 1 ∗ rdy c (46 + k % 16) 1 ∗ any c (sendV k) ∗ any c (rC (rowIx c k))) ∗ owesE c 0) := fun Q => by
  unfold sentStep
  rw [wp_bind]
  iintro ⟨#HG, ⟨⟨Hfy, Hfx, Hright⟩, HO⟩, HK⟩
  iapply (tri_sentYWait c hk _)
  isplitr; · iexact HG
  isplitl [Hfy HO]
  · isplitl [Hfy]; · iexact Hfy
    iexact HO
  unfold syPay
  iintro ⟨Ha, Hry, HO⟩
  iapply (tri_sentXWait c hk _)
  isplitr; · iexact HG
  isplitl [Hfx HO]
  · isplitl [Hfx]; · iexact Hfx
    iexact HO
  unfold sxPay
  iintro ⟨Hleft, Hrx, HO⟩
  iapply HK
  isplitr [HO]
  · isplitl [Hry]; · iexact Hry
    isplitl [Hrx]; · iexact Hrx
    isplitl [Ha]; · iexact Ha
    iapply (holds_any m c _ (rval m c k))
    iapply (holds_halves m c _ _).2
    isplitl [Hleft]; · iexact Hleft
    iexact Hright
  iexact HO

end Cert.Proof

end
-- ==== Proof.Body.lean ====
/-
  The body as a whole: from what a device holds on entry to what it holds on return.
-/
module

public import proofs.«01_k».proof.Proof.Loops

@[expose] public section

set_option maxRecDepth 65536

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Two windows; items alone -/

section Gen

theorem ico_sep {M : Type} [URA M] (Φ Ψ : ℕ → sProp M) (a b : ℕ) :
    (bigSep (Finset.Ico a b) fun i => iprop(Φ i ∗ Ψ i)) = iprop(bigSep (Finset.Ico a b) Φ ∗ bigSep (Finset.Ico a b) Ψ) :=
  bigSep_sep' _ Φ Ψ

variable {c : Dev nD} {Γ : sProp (MT nD τ sig Unit (Elt F) ℕ UU ℕ)} [BI.Persistent Γ]

theorem Tri.items' {f : ℕ → TProg F} (A B : ℕ → sProp 𝕄) (a n : ℕ)
    (h : ∀ i, a ≤ i → i < a + n → Tri c Γ (A i) (f i) (B i)) :
    Tri c Γ (bigSep (Finset.Ico a (a + n)) A) (Cert.Proof.loop f a n) (bigSep (Finset.Ico a (a + n)) B) := by
  refine Tri.conseq ?_ ?_ (Tri.items A B (fun _ => iprop(emp)) a n fun i h1 h2 => (h i h1 h2).frame iprop(emp))
  · iintro H
    isplitl [H]; · iexact H
    iempintro
  · iintro ⟨H, -⟩
    iexact H

theorem Tri.window₂ {p : TProg F} {A B J J' : sProp 𝕄} (W V : ℕ → sProp 𝕄) (n l k : ℕ) (hn : 0 < n) (hl : 0 < l)
    (h : Tri c Γ iprop(A ∗ W k ∗ V k ∗ J) p iprop(B ∗ W (k + n) ∗ V (k + l) ∗ J')) :
    Tri c Γ iprop(A ∗ bigSep (Finset.Ico k (k + n)) W ∗ bigSep (Finset.Ico k (k + l)) V ∗ J) p
      iprop(B ∗ bigSep (Finset.Ico (k + 1) (k + 1 + n)) W ∗ bigSep (Finset.Ico (k + 1) (k + 1 + l)) V ∗ J') := by
  have h1 := Tri.window W n k hn h
  have h2 : Tri c Γ iprop((A ∗ bigSep (Finset.Ico k (k + n)) W) ∗ V k ∗ J) p
      iprop((B ∗ bigSep (Finset.Ico (k + 1) (k + 1 + n)) W) ∗ V (k + l) ∗ J') :=
    Tri.conseq BI.sep_assoc BI.sep_assoc' h1
  exact Tri.conseq BI.sep_assoc' BI.sep_assoc (Tri.window V l k hl h2)

end Gen

variable (m : (ℓ : Loc nD τ sig) → Buf (Elt F) ℓ) {K : Dev nD × Fin 79 → ℕ} (c : Dev nD)

/-! ## On entry and on return -/

/-- What sending chunk `i` along y takes of the device itself, -/
def syOwn (i : ℕ) : sProp 𝕄 := iprop(any c (sendV i) ∗ rdy c (14 + i % 16) 0 ∗ tok c (14 + i % 16) 0 ∗ tok (peerY c) (30 + i % 16) 0)
/-- and along x. -/
def sxOwn (i : ℕ) : sProp 𝕄 := iprop(rdy c (46 + i % 16) 0 ∗ tok c (46 + i % 16) 0 ∗ tok (peerX c) (62 + i % 16) 0)
/-- What a sent chunk leaves. -/
def sent (i : ℕ) : sProp 𝕄 := iprop(rdy c (14 + i % 16) 1 ∗ rdy c (46 + i % 16) 1 ∗ any c (sendV i) ∗ any c (rC (rowIx c i)))
/-- The argument's chunks of the other column half and of the device's own. -/
def xN (i : ℕ) : sProp 𝕄 := xpc m c (rowIx c (i % 16)) (colN c)
def xY (i : ℕ) : sProp 𝕄 := xpc m c (rowIx c i) (colY c)
def recvY (i : ℕ) : sProp 𝕄 := fly c (30 + i % 16) 0
def recvX (i : ℕ) : sProp 𝕄 := fly c (62 + i % 16) 0
def doneY (i : ℕ) : sProp 𝕄 := rdy c (30 + i % 16) 1
def doneX (i : ℕ) : sProp 𝕄 := rdy c (62 + i % 16) 1
/-- A chunk received along x. -/
def gotX (i : ℕ) : sProp 𝕄 := holds m c (rC (rowIx c (16 + i))) fullShare (rval m c (16 + i))

/-- What the barrier takes. -/
def barIn : sProp 𝕄 :=
  iprop((bigSep (Finset.Ico 0 16) fun k => any c (rC (rowIx c k))) ∗ (bigSep (Finset.Ico 0 16) fun k => any c (rC (rowIx c (16 + k))))
    ∗ dutyTok ER (bcell (peerY c)) 0 false ∗ dutyTok ER (bcell (peerX c)) 0 true
    ∗ cred (tallyAt (bcell c) () 2) ∗ atPos ER (bcell c) 0 ∅ 0 ∗ owesE c (O₀ c))

def bodyIn : sProp 𝕄 :=
  iprop(barIn c
    ∗ bigSep (Finset.Ico 0 4) (stFree c) ∗ bigSep (Finset.Ico 0 20) (stIn m c) ∗ bigSep (Finset.Ico 0 16) (syOwn c)
    ∗ bigSep (Finset.Ico 0 6) (loFree c) ∗ bigSep (Finset.Ico 0 38) (loIn m c)
    ∗ bigSep (Finset.Ico 0 4) (reWin c) ∗ bigSep (Finset.Ico 0 32) (reIn c)
    ∗ bigSep (Finset.Ico 0 16) (recvY c) ∗ bigSep (Finset.Ico 0 16) (sxOwn c) ∗ bigSep (Finset.Ico 0 16) (recvX c))

def bodyOut : sProp 𝕄 :=
  iprop(atPos ER (bcell c) 1 ∅ 0 ∗ owesE c 0
    ∗ bigSep (Finset.Ico 0 16) (xN m c) ∗ bigSep (Finset.Ico 16 20) (stWin c)
    ∗ bigSep (Finset.Ico 0 32) (xY m c) ∗ bigSep (Finset.Ico 32 38) (loWin c)
    ∗ bigSep (Finset.Ico 0 36) (reOut m c) ∗ bigSep (Finset.Ico 32 36) (reFree c)
    ∗ bigSep (Finset.Ico 0 16) (doneY c) ∗ bigSep (Finset.Ico 0 16) (doneX c)
    ∗ bigSep (Finset.Ico 0 16) (sent c) ∗ bigSep (Finset.Ico 0 16) (gotX m c))

/-! ## The loops -/

variable {m}

theorem tri_stageLoop :
    Tri c (know m K)
      iprop((bigSep (Finset.Ico 0 16) (fun i => stIn m c (4 + i)) ∗ bigSep (Finset.Ico 0 16) (syIn c))
        ∗ bigSep (Finset.Ico 0 4) (stWin c) ∗ owesE c (OY c 0 + OX c 0))
      (loop (stageStep (canonOffs c)) 0 16)
      iprop((bigSep (Finset.Ico 0 16) (xN m c) ∗ bigSep (Finset.Ico 0 16) (fun i => fly c (14 + i % 16) 0))
        ∗ bigSep (Finset.Ico 16 20) (stWin c) ∗ owesE c (OX c 0)) := by
  have := Tri.items (c := c) (Γ := know m K) (f := stageStep (canonOffs c)) (fun i => iprop(stIn m c (4 + i) ∗ syIn c i))
    (fun i => iprop(xN m c i ∗ fly c (14 + i % 16) 0))
    (fun i => iprop(bigSep (Finset.Ico i (i + 4)) (stWin c) ∗ owesE c (OY c i + OX c 0))) 0 16
    fun i _ hi => Tri.window (stWin c) 4 i (by decide) (tri_stageStep c (by omega))
  rw [ico_sep, ico_sep] at this
  simp only [Nat.zero_add] at this
  rwa [OY_end, zero_add] at this

theorem tri_ownLoop :
    Tri c (know m K)
      iprop((bigSep (Finset.Ico 0 16) (recvY c) ∗ bigSep (Finset.Ico 0 16) (sxIn c) ∗ bigSep (Finset.Ico 0 16) (fun i => loIn m c (6 + i))
          ∗ bigSep (Finset.Ico 0 16) (reIn c))
        ∗ bigSep (Finset.Ico 0 6) (loWin c) ∗ bigSep (Finset.Ico 0 4) (reWin c) ∗ owesE c (OX c 0))
      (loop (ownStep (canonOffs c)) 0 16)
      iprop((bigSep (Finset.Ico 0 16) (doneY c) ∗ bigSep (Finset.Ico 0 16) (fun i => fly c (46 + i % 16) 0)
          ∗ bigSep (Finset.Ico 0 16) (fun i => holds m c (rC (rowIx c i)) fullShare.right (rval m c i))
          ∗ bigSep (Finset.Ico 0 16) (xY m c) ∗ bigSep (Finset.Ico 0 16) (reOut m c))
        ∗ bigSep (Finset.Ico 16 22) (loWin c) ∗ bigSep (Finset.Ico 16 20) (reWin c) ∗ owesE c 0) := by
  have := Tri.items (c := c) (Γ := know m K) (f := ownStep (canonOffs c))
    (fun i => iprop(recvY c i ∗ sxIn c i ∗ loIn m c (6 + i) ∗ reIn c i))
    (fun i => iprop(doneY c i ∗ fly c (46 + i % 16) 0 ∗ holds m c (rC (rowIx c i)) fullShare.right (rval m c i) ∗ xY m c i ∗ reOut m c i))
    (fun i => iprop(bigSep (Finset.Ico i (i + 6)) (loWin c) ∗ bigSep (Finset.Ico i (i + 4)) (reWin c) ∗ owesE c (OX c i))) 0 16
    fun i _ hi => Tri.window₂ (loWin c) (reWin c) 6 4 i (by decide) (by decide) (tri_ownStep c (by omega))
  simp only [ico_sep, Nat.zero_add] at this
  rwa [OX_end] at this

theorem tri_otherLoop :
    Tri c (know m K)
      iprop((bigSep (Finset.Ico 0 16) (recvX c) ∗ bigSep (Finset.Ico 0 16) (fun i => loIn m c (22 + i))
          ∗ bigSep (Finset.Ico 0 16) (fun i => reIn c (16 + i)))
        ∗ bigSep (Finset.Ico 16 22) (loWin c) ∗ bigSep (Finset.Ico 16 20) (reWin c) ∗ owesE c 0)
      (loop (otherStep (canonOffs c)) 0 16)
      iprop((bigSep (Finset.Ico 0 16) (doneX c) ∗ bigSep (Finset.Ico 0 16) (gotX m c)
          ∗ bigSep (Finset.Ico 0 16) (fun i => xY m c (16 + i)) ∗ bigSep (Finset.Ico 0 16) (fun i => reOut m c (16 + i)))
        ∗ bigSep (Finset.Ico 32 38) (loWin c) ∗ bigSep (Finset.Ico 32 36) (reWin c) ∗ owesE c 0) := by
  have := Tri.items (c := c) (Γ := know m K) (f := otherStep (canonOffs c))
    (fun i => iprop(recvX c i ∗ loIn m c (22 + i) ∗ reIn c (16 + i)))
    (fun i => iprop(doneX c i ∗ gotX m c i ∗ xY m c (16 + i) ∗ reOut m c (16 + i)))
    (fun i => iprop(bigSep (Finset.Ico (16 + i) (16 + i + 6)) (loWin c) ∗ bigSep (Finset.Ico (16 + i) (16 + i + 4)) (reWin c) ∗ owesE c 0)) 0 16
    fun i _ hi => Tri.window₂ (loWin c) (reWin c) 6 4 (16 + i) (by decide) (by decide) (tri_otherStep c (by omega))
  simpa only [ico_sep, Nat.zero_add] using this

theorem tri_sentLoop :
    Tri c (know m K)
      iprop((bigSep (Finset.Ico 0 16) (fun i => fly c (14 + i % 16) 0) ∗ bigSep (Finset.Ico 0 16) (fun i => fly c (46 + i % 16) 0)
        ∗ bigSep (Finset.Ico 0 16) (fun i => holds m c (rC (rowIx c i)) fullShare.right (rval m c i))) ∗ owesE c 0)
      (loop (sentStep (canonOffs c)) 0 16)
      iprop(bigSep (Finset.Ico 0 16) (sent c) ∗ owesE c 0) := by
  have := Tri.items (c := c) (Γ := know m K) (f := sentStep (canonOffs c))
    (fun i => iprop(fly c (14 + i % 16) 0 ∗ fly c (46 + i % 16) 0 ∗ holds m c (rC (rowIx c i)) fullShare.right (rval m c i)))
    (sent c) (fun _ => owesE c 0) 0 16 fun i _ hi => tri_sentStep c (by omega)
  simpa only [ico_sep, Nat.zero_add] using this

theorem tri_resLoop :
    Tri c (know m K) iprop(bigSep (Finset.Ico 32 36) (reWin c) ∗ owesE c 0) (loop (resWait (canonOffs c)) 28 4)
      iprop((bigSep (Finset.Ico 32 36) (reFree c) ∗ bigSep (Finset.Ico 32 36) (reOut m c)) ∗ owesE c 0) := by
  have := Tri.items (c := c) (Γ := know m K) (f := resWait (canonOffs c)) (fun i => reWin c (4 + i))
    (fun i => iprop(reFree c (4 + i) ∗ reOut m c (4 + i))) (fun _ => owesE c 0) 28 4 fun i h1 h2 => by
      rw [add_comm 4 i]
      refine Tri.conseq (Entails.refl _) BI.sep_assoc' (tri_resWait c (by omega) (.zero 0))
  have hs : ∀ Φ : ℕ → sProp 𝕄, (bigSep (Finset.Ico 28 (28 + 4)) fun i => Φ (4 + i)) = bigSep (Finset.Ico 32 36) Φ := fun Φ => by
    rw [ico_shift (fun i => Φ (4 + i)) 28 4, show (36 : ℕ) = 32 + 4 from rfl, ico_shift Φ 32 4]
    exact ico_congr fun i _ _ => by rw [show 4 + (28 + i) = 32 + i by omega]
  rw [ico_sep, hs, hs, hs] at this
  exact this

/-! ## The body -/

theorem syIn_of : iprop(bigSep (Finset.Ico 0 16) (syOwn c) ∗ bigSep (Finset.Ico 0 16) fun k => any (peerY c) (rC (rowIx c k)))
    ⊢ (bigSep (Finset.Ico 0 16) (syIn c) : sProp 𝕄) := by
  rw [← ico_sep]
  refine ico_mono fun i _ _ => ?_
  unfold syOwn syIn
  iintro ⟨⟨Ha, Hr⟩, Hp⟩
  isplitl [Ha]; · iexact Ha
  isplitl [Hp]; · iexact Hp
  iexact Hr

theorem sxIn_of : iprop(bigSep (Finset.Ico 0 16) (sxOwn c) ∗ bigSep (Finset.Ico 0 16) fun k => any (peerX c) (rC (rowIx c k)))
    ⊢ (bigSep (Finset.Ico 0 16) (sxIn c) : sProp 𝕄) := by
  rw [← ico_sep]
  refine ico_mono fun i _ _ => ?_
  unfold sxOwn sxIn
  exact BI.sep_comm

/-- An interval cut and its second part shifted to start at 0. -/
theorem ico_split {M : Type} [URA M] (Φ : ℕ → sProp M) (a n : ℕ) :
    bigSep (Finset.Ico 0 (a + n)) Φ = iprop(bigSep (Finset.Ico 0 a) Φ ∗ bigSep (Finset.Ico 0 n) fun i => Φ (a + i)) := by
  rw [ico_cat Φ (Nat.zero_le a) (Nat.le_add_right a n), ico_shift Φ a n]

theorem tri_body : Tri c (know m K) (bodyIn m c) (bodyAt (canonOffs c)) (bodyOut m c) := fun Q => by
  unfold bodyAt bodyIn barIn
  rw [show (20 : ℕ) = 4 + 16 from rfl, show (38 : ℕ) = 6 + (16 + 16) from rfl, show (32 : ℕ) = 16 + 16 from rfl,
    ico_split (stIn m c), ico_split (loIn m c) 6, ico_split (fun i => loIn m c (6 + i)) 16, ico_split (reIn c)]
  rw [wp_bind]
  iintro ⟨#HG, ⟨Hbar, Hsf, ⟨Hsi, Hsi'⟩, Hsy, Hlf, ⟨Hli, Hli', Hli''⟩, Hrw, ⟨Hri, Hri'⟩, HrY, Hsx, HrX⟩, HK⟩
  iapply (tri_barrier c _)
  isplitr; · iexact HG
  isplitl [Hbar]; · iexact Hbar
  iintro ⟨HpY, HpX, Hat, HO⟩
  rw [wp_bind]
  iapply (Tri.items' (fun i => iprop(stFree c i ∗ stIn m c i)) (stWin c) 0 4 (fun i _ hi => tri_stageStart c (by omega)) _)
  isplitr; · iexact HG
  isplitl [Hsf Hsi]
  · rw [ico_sep]
    isplitl [Hsf]; · iexact Hsf
    iexact Hsi
  iintro Hsw
  rw [wp_bind]
  iapply (tri_stageLoop c _)
  isplitr; · iexact HG
  isplitl [Hsi' Hsy HpY Hsw HO]
  · isplitl [Hsi' Hsy HpY]
    · isplitl [Hsi']; · iexact Hsi'
      iapply (syIn_of c)
      isplitl [Hsy]; · iexact Hsy
      iexact HpY
    isplitl [Hsw]; · iexact Hsw
    iexact HO
  iintro ⟨⟨HxN, HfY⟩, Hsw, HO⟩
  rw [wp_bind]
  iapply (Tri.items' (fun i => iprop(loFree c i ∗ loIn m c i)) (loWin c) 0 6 (fun i _ hi => tri_localStart c (by omega)) _)
  isplitr; · iexact HG
  isplitl [Hlf Hli]
  · rw [ico_sep]
    isplitl [Hlf]; · iexact Hlf
    iexact Hli
  iintro Hlw
  rw [wp_bind]
  iapply (tri_ownLoop c _)
  isplitr; · iexact HG
  isplitl [HrY Hsx HpX Hli' Hri Hlw Hrw HO]
  · isplitl [HrY Hsx HpX Hli' Hri]
    · isplitl [HrY]; · iexact HrY
      isplitl [Hsx HpX]
      · iapply (sxIn_of c)
        isplitl [Hsx]; · iexact Hsx
        iexact HpX
      isplitl [Hli']; · iexact Hli'
      iexact Hri
    isplitl [Hlw]; · iexact Hlw
    isplitl [Hrw]; · iexact Hrw
    iexact HO
  iintro ⟨⟨HdY, HfX, Hrt, HxY, Hro⟩, Hlw, Hrw, HO⟩
  rw [wp_bind]
  iapply (tri_otherLoop c _)
  isplitr; · iexact HG
  isplitl [HrX Hli'' Hri' Hlw Hrw HO]
  · isplitl [HrX Hli'' Hri']
    · isplitl [HrX]; · iexact HrX
      isplitl [Hli'']
      · iapply (ico_mono (fun i _ _ => Entails.of_eq (by rw [show 22 + i = 6 + (16 + i) by omega]))); iexact Hli''
      iexact Hri'
    isplitl [Hlw]; · iexact Hlw
    isplitl [Hrw]; · iexact Hrw
    iexact HO
  iintro ⟨⟨HdX, Hgx, HxY', Hro'⟩, Hlw, Hrw, HO⟩
  rw [wp_bind]
  iapply (tri_sentLoop c _)
  isplitr; · iexact HG
  isplitl [HfY HfX Hrt HO]
  · isplitl [HfY HfX Hrt]
    · isplitl [HfY]; · iexact HfY
      isplitl [HfX]; · iexact HfX
      iexact Hrt
    iexact HO
  iintro ⟨Hsent, HO⟩
  iapply (tri_resLoop c _)
  isplitr; · iexact HG
  isplitl [Hrw HO]
  · isplitl [Hrw]; · iexact Hrw
    iexact HO
  iintro ⟨⟨Hrf, Hro''⟩, HO⟩
  iapply HK
  unfold bodyOut
  isplitl [Hat]; · iexact Hat
  isplitl [HO]; · iexact HO
  isplitl [HxN]; · iexact HxN
  isplitl [Hsw]; · iexact Hsw
  isplitl [HxY HxY']
  · rw [show (32 : ℕ) = 16 + 16 from rfl, ico_split]
    isplitl [HxY]; · iexact HxY
    iexact HxY'
  isplitl [Hlw]; · iexact Hlw
  isplitl [Hro Hro' Hro'']
  · rw [ico_cat (reOut m c) (show 0 ≤ 32 by decide) (show 32 ≤ 36 by decide), show (32 : ℕ) = 16 + 16 from rfl, ico_split]
    isplitr [Hro'']
    · isplitl [Hro]; · iexact Hro
      iexact Hro'
    iexact Hro''
  isplitl [Hrf]; · iexact Hrf
  isplitl [HdY]; · iexact HdY
  isplitl [HdX]; · iexact HdX
  isplitl [Hsent]; · iexact Hsent
  iexact Hgx

end Cert.Proof

end
-- ==== Proof.Pieces.lean ====
/-
  Buffers cut into the chunks the body works on, and put together again.
-/
module

public import proofs.«01_k».proof.Proof.Body

@[expose] public section

set_option maxRecDepth 65536

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any buffer -/

section Gen

variable (ℓ : Loc nD τ sig) (K : ℕ → Finset (Idx ℓ)) (n : ℕ)

/-- What the pieces leave of a buffer, whatever it reads. -/
def left : sProp 𝕄 := iprop(∃ f : Buf (Elt F) ℓ, ℓ ↦[rest K n]{fullShare} f)

variable (hK : ∀ t ∈ Finset.Ico 0 n, ∀ t' ∈ Finset.Ico 0 n, t ≠ t' → Disjoint (K t) (K t'))

include hK

omit [FloatOps F] in
theorem cut_any :
    iprop(∃ f : Buf (Elt F) ℓ, ℓ ↦{fullShare} f)
      ⊢ (iprop((bigSep (Finset.Ico 0 n) fun t => iprop(∃ f : Buf (Elt F) ℓ, ℓ ↦[K t]{fullShare} f)) ∗ left ℓ K n) : sProp 𝕄) := by
  iintro ⟨%f, H⟩
  ihave H := ((cut_eq K n hK f).1) $$ H
  icases H with ⟨Hp, Hr⟩
  isplitl [Hp]
  · iapply (ico_mono fun t _ _ => show (ℓ ↦[K t]{fullShare} f : sProp 𝕄) ⊢ iprop(∃ f : Buf (Elt F) ℓ, ℓ ↦[K t]{fullShare} f) by
      iintro H; iexists f; iexact H)
    iexact Hp
  unfold left; iexists f; iexact Hr

theorem glue_any :
    iprop((bigSep (Finset.Ico 0 n) fun t => iprop(∃ f : Buf (Elt F) ℓ, ℓ ↦[K t]{fullShare} f)) ∗ left ℓ K n)
      ⊢ (iprop(∃ f : Buf (Elt F) ℓ, ℓ ↦{fullShare} f) : sProp 𝕄) := by
  unfold left
  iintro ⟨Hp, ⟨%f, Hr⟩⟩
  haveI : ∀ _ : ℕ, Nonempty (Buf (Elt F) ℓ) := fun _ => ⟨f⟩
  ihave Hp := (BI.bigSep_exists_pi (Finset.Ico 0 n) (fun t (f : Buf (Elt F) ℓ) => (ℓ ↦[K t]{fullShare} f : sProp 𝕄))) $$ Hp
  icases Hp with ⟨%fs, Hp⟩
  ihave H := (glue K n hK fs f) $$ [Hp Hr]
  · isplitl [Hp]; · iexact Hp
    iexact Hr
  icases H with ⟨%g, -, H⟩
  iexists g; iexact H

end Gen

/-! ## The scratch buffers -/

variable (c : Dev nD)

/-- A buffer of device `c` held whole, whatever it reads. -/
def whole (b : Ref sig .tc) : sProp 𝕄 := iprop(∃ f : Buf (Elt F) ((c : Thread nD τ).loc b), (c : Thread nD τ).loc b ↦{fullShare} f)

/-- The elements of a buffer under each chunk. -/
def stageSet (t : ℕ) : Finset (Idx ((c : Thread nD τ).loc cc0_scratch2)) := ((stageV t).view.set : Finset (Idx (((stageV t)).view.loc (c : Thread nD τ))))
theorem any_stage (t : ℕ) : any (F := F) c ((stageV t)) = iprop(∃ f : Buf (Elt F) ((c : Thread nD τ).loc cc0_scratch2), (c : Thread nD τ).loc cc0_scratch2 ↦[stageSet c t]{fullShare} f) := rfl
def localSet (t : ℕ) : Finset (Idx ((c : Thread nD τ).loc cc0_scratch3)) := ((localV t).view.set : Finset (Idx (((localV t)).view.loc (c : Thread nD τ))))
theorem any_local (t : ℕ) : any (F := F) c ((localV t)) = iprop(∃ f : Buf (Elt F) ((c : Thread nD τ).loc cc0_scratch3), (c : Thread nD τ).loc cc0_scratch3 ↦[localSet c t]{fullShare} f) := rfl
def resSet (t : ℕ) : Finset (Idx ((c : Thread nD τ).loc cc0_scratch4)) := ((resV t).view.set : Finset (Idx (((resV t)).view.loc (c : Thread nD τ))))
theorem any_res (t : ℕ) : any (F := F) c ((resV t)) = iprop(∃ f : Buf (Elt F) ((c : Thread nD τ).loc cc0_scratch4), (c : Thread nD τ).loc cc0_scratch4 ↦[resSet c t]{fullShare} f) := rfl
def sendSet (t : ℕ) : Finset (Idx ((c : Thread nD τ).loc cc0_scratch1)) := ((sendV t).view.set : Finset (Idx (((sendV t)).view.loc (c : Thread nD τ))))
theorem any_send (t : ℕ) : any (F := F) c ((sendV t)) = iprop(∃ f : Buf (Elt F) ((c : Thread nD τ).loc cc0_scratch1), (c : Thread nD τ).loc cc0_scratch1 ↦[sendSet c t]{fullShare} f) := rfl
def recvSet (t : ℕ) : Finset (Idx ((c : Thread nD τ).loc cc0_scratch0)) := ((rC (rowIx c t)).view.set : Finset (Idx (((rC (rowIx c t))).view.loc (c : Thread nD τ))))
theorem any_recv (t : ℕ) : any (F := F) c ((rC (rowIx c t))) = iprop(∃ f : Buf (Elt F) ((c : Thread nD τ).loc cc0_scratch0), (c : Thread nD τ).loc cc0_scratch0 ↦[recvSet c t]{fullShare} f) := rfl

def leftStage : sProp 𝕄 := left (F := F) ((c : Thread nD τ).loc cc0_scratch2) (stageSet c) 4
def leftLocal : sProp 𝕄 := left (F := F) ((c : Thread nD τ).loc cc0_scratch3) (localSet c) 6
def leftRes : sProp 𝕄 := left (F := F) ((c : Thread nD τ).loc cc0_scratch4) (resSet c) 4
def leftSend : sProp 𝕄 := left (F := F) ((c : Thread nD τ).loc cc0_scratch1) (sendSet c) 16
def leftRecv : sProp 𝕄 := left (F := F) ((c : Thread nD τ).loc cc0_scratch0) (recvSet c) 32

theorem stage_disj : ∀ t ∈ Finset.Ico 0 4, ∀ t' ∈ Finset.Ico 0 4, t ≠ t' → Disjoint (stageSet c t) (stageSet c t') :=
  fun t h t' h' => stageV_disj (Finset.mem_Ico.mp h).2 (Finset.mem_Ico.mp h').2
theorem stage_eq : (whole (F := F) c cc0_scratch2 : sProp 𝕄) ⊣⊢ iprop((bigSep (Finset.Ico 0 4) fun t => any c (stageV t)) ∗ leftStage c) := by
  simp only [any_stage]
  exact ⟨cut_any _ _ 4 (stage_disj c), glue_any _ _ 4 (stage_disj c)⟩
theorem local_disj : ∀ t ∈ Finset.Ico 0 6, ∀ t' ∈ Finset.Ico 0 6, t ≠ t' → Disjoint (localSet c t) (localSet c t') :=
  fun t h t' h' => localV_disj (Finset.mem_Ico.mp h).2 (Finset.mem_Ico.mp h').2
theorem local_eq : (whole (F := F) c cc0_scratch3 : sProp 𝕄) ⊣⊢ iprop((bigSep (Finset.Ico 0 6) fun t => any c (localV t)) ∗ leftLocal c) := by
  simp only [any_local]
  exact ⟨cut_any _ _ 6 (local_disj c), glue_any _ _ 6 (local_disj c)⟩
theorem res_disj : ∀ t ∈ Finset.Ico 0 4, ∀ t' ∈ Finset.Ico 0 4, t ≠ t' → Disjoint (resSet c t) (resSet c t') :=
  fun t h t' h' => resV_disj (Finset.mem_Ico.mp h).2 (Finset.mem_Ico.mp h').2
theorem res_eq : (whole (F := F) c cc0_scratch4 : sProp 𝕄) ⊣⊢ iprop((bigSep (Finset.Ico 0 4) fun t => any c (resV t)) ∗ leftRes c) := by
  simp only [any_res]
  exact ⟨cut_any _ _ 4 (res_disj c), glue_any _ _ 4 (res_disj c)⟩
theorem send_disj : ∀ t ∈ Finset.Ico 0 16, ∀ t' ∈ Finset.Ico 0 16, t ≠ t' → Disjoint (sendSet c t) (sendSet c t') :=
  fun t h t' h' => sendV_disj (Finset.mem_Ico.mp h).2 (Finset.mem_Ico.mp h').2
theorem send_eq : (whole (F := F) c cc0_scratch1 : sProp 𝕄) ⊣⊢ iprop((bigSep (Finset.Ico 0 16) fun t => any c (sendV t)) ∗ leftSend c) := by
  simp only [any_send]
  exact ⟨cut_any _ _ 16 (send_disj c), glue_any _ _ 16 (send_disj c)⟩

theorem recv_disj : ∀ t ∈ Finset.Ico 0 32, ∀ t' ∈ Finset.Ico 0 32, t ≠ t' → Disjoint (recvSet c t) (recvSet c t') :=
  fun t h t' h' hne => rC_disj (rowIx_lt c t) (rowIx_lt c t') fun e =>
    hne (rowIx_inj c (Finset.mem_Ico.mp h).2 (Finset.mem_Ico.mp h').2 e)

theorem recv_eq : (whole (F := F) c cc0_scratch0 : sProp 𝕄)
    ⊣⊢ iprop((bigSep (Finset.Ico 0 16) fun t => any c (rC (rowIx c t))) ∗ (bigSep (Finset.Ico 0 16) fun t => any c (rC (rowIx c (16 + t)))) ∗ leftRecv c) := by
  have h : (whole (F := F) c cc0_scratch0 : sProp 𝕄) ⊣⊢ iprop((bigSep (Finset.Ico 0 (16 + 16)) fun t => any c (rC (rowIx c t))) ∗ leftRecv c) := by
    simp only [any_recv]
    exact ⟨cut_any _ _ 32 (recv_disj c), glue_any _ _ 32 (recv_disj c)⟩
  rw [ico_split] at h
  exact ⟨h.1.trans BI.sep_assoc, BI.sep_assoc'.trans h.2⟩

/-! ## The argument -/

variable (m : (ℓ : Loc nD τ sig) → Buf (Elt F) ℓ)

/-- Chunk `t` of the argument: the 16 sent along y, then the 32 added here. -/
def xRow (t : ℕ) : ℕ := rowIx c (if t < 16 then t % 16 else t - 16)
def xCol (t : ℕ) : ℕ := if t < 16 then colN c else colY c
def xSet (t : ℕ) : Finset (Idx ((c : Thread nD τ).loc main_arg0)) :=
  ((xC (xRow c t) (xCol c t)).view.set : Finset (Idx ((xC (xRow c t) (xCol c t)).view.loc (c : Thread nD τ))))

theorem xCol_lt (t : ℕ) : xCol c t < 2 := by unfold xCol; split <;> simp only [colN, colY] <;> omega

theorem x_ne {t t' : ℕ} (h : t < 48) (h' : t' < 48) (hne : t ≠ t') : xRow c t ≠ xRow c t' ∨ xCol c t ≠ xCol c t' := by
  unfold xRow xCol
  by_cases a : t < 16 <;> by_cases b : t' < 16 <;> simp only [a, b, if_true, if_false]
  · exact Or.inl fun e => hne (by have := rowIx_inj c (by omega) (by omega) e; omega)
  · right; simp only [colN, colY]; omega
  · right; simp only [colN, colY]; omega
  · exact Or.inl fun e => hne (by have := rowIx_inj c (by omega) (by omega) e; omega)

theorem xSet_disj : ∀ t ∈ Finset.Ico 0 48, ∀ t' ∈ Finset.Ico 0 48, t ≠ t' → Disjoint (xSet c t) (xSet c t') := fun t h t' h' hne =>
  xC_disj (rowIx_lt c _) (rowIx_lt c _) (xCol_lt c t) (xCol_lt c t') (x_ne c (Finset.mem_Ico.mp h).2 (Finset.mem_Ico.mp h').2 hne)

theorem xpc_set (t : ℕ) : ((c : Thread nD τ).loc main_arg0 ↦[xSet c t]{fullShare} m ((c : Thread nD τ).loc main_arg0) : sProp 𝕄)
    = xpc m c (xRow c t) (xCol c t) := rfl

/-- What the chunks leave of the argument. -/
def leftX : sProp 𝕄 := (c : Thread nD τ).loc main_arg0 ↦[rest (xSet c) 48]{fullShare} m ((c : Thread nD τ).loc main_arg0)

theorem x_eq : ((c : Thread nD τ).loc main_arg0 ↦{fullShare} m ((c : Thread nD τ).loc main_arg0) : sProp 𝕄)
    ⊣⊢ iprop((bigSep (Finset.Ico 0 16) (xN m c)) ∗ (bigSep (Finset.Ico 0 32) (xY m c)) ∗ leftX c m) := by
  have h := cut_eq (xSet c) 48 (xSet_disj c) (m ((c : Thread nD τ).loc main_arg0))
  have e : (bigSep (Finset.Ico 0 48) fun t => ((c : Thread nD τ).loc main_arg0 ↦[xSet c t]{fullShare} m ((c : Thread nD τ).loc main_arg0) : sProp 𝕄))
      = iprop(bigSep (Finset.Ico 0 16) (xN m c) ∗ bigSep (Finset.Ico 0 32) (xY m c)) := by
    rw [show (48 : ℕ) = 16 + 32 from rfl, ico_split]
    refine congrArg₂ (fun a b => iprop(a ∗ b)) (ico_congr fun t _ ht => ?_) (ico_congr fun t _ ht => ?_)
    · rw [xpc_set]; unfold xRow xCol; rw [if_pos ht, if_pos ht]; rfl
    · rw [xpc_set]; unfold xRow xCol; rw [if_neg (by omega), if_neg (by omega), Nat.add_sub_cancel_left]; rfl
  rw [e] at h
  exact ⟨h.1.trans BI.sep_assoc, BI.sep_assoc'.trans h.2⟩

/-! ## The result -/

def outSet (t : ℕ) : Finset (Idx ((c : Thread nD τ).loc main_v1)) := ((oC (rowIx c t)).view.set : Finset (Idx (((oC (rowIx c t))).view.loc (c : Thread nD τ))))
theorem any_out (t : ℕ) : any (F := F) c ((oC (rowIx c t))) = iprop(∃ f : Buf (Elt F) ((c : Thread nD τ).loc main_v1), (c : Thread nD τ).loc main_v1 ↦[outSet c t]{fullShare} f) := rfl
def leftOut : sProp 𝕄 := left (F := F) ((c : Thread nD τ).loc main_v1) (outSet c) 32

theorem out_disj : ∀ t ∈ Finset.Ico 0 32, ∀ t' ∈ Finset.Ico 0 32, t ≠ t' → Disjoint (outSet c t) (outSet c t') :=
  fun t h t' h' hne => oC_disj (rowIx_lt c t) (rowIx_lt c t') fun e =>
    hne (rowIx_inj c (Finset.mem_Ico.mp h).2 (Finset.mem_Ico.mp h').2 e)

theorem out_cut (f : Buf (Elt F) ((c : Thread nD τ).loc main_v1)) : ((c : Thread nD τ).loc main_v1 ↦{fullShare} f : sProp 𝕄)
    ⊢ iprop((bigSep (Finset.Ico 0 32) fun t => any c (oC (rowIx c t))) ∗ leftOut c) := by
  simp only [any_out]
  refine BIBase.Entails.trans ?_ (cut_any _ _ 32 (out_disj c))
  iintro H; iexists f; iexact H

/-- The result's contents read chunk `k` as computed, for every `k`. -/
def Result (g : Buf (Elt F) ((c : Thread nD τ).loc main_v1)) : Prop :=
  ∀ k < 32, (oC (rowIx c k)).view.read (Elt F) g = oval m c k

/-- The result held whole, computed. -/
def outDone : sProp 𝕄 := iprop(∃ g : Buf (Elt F) ((c : Thread nD τ).loc main_v1), ⌜Result c m g⌝ ∗ (c : Thread nD τ).loc main_v1 ↦{fullShare} g)

/-- The contents that chunk `t` alone gives. -/
def outFill (t : ℕ) : Buf (Elt F) ((c : Thread nD τ).loc main_v1) :=
  ((oC (rowIx c t)).view.write (Elt F) (m ((oC (rowIx c t)).view.loc (c : Thread nD τ))) (oval m c t) Finset.univ :
    Buf (Elt F) ((oC (rowIx c t)).view.loc (c : Thread nD τ)))

theorem holds_out (t : ℕ) : holds m c (oC (rowIx c t)) fullShare (oval m c t)
    = ((c : Thread nD τ).loc main_v1 ↦[outSet c t]{fullShare} outFill c m t : sProp 𝕄) := rfl

theorem fill_read (t : ℕ) {g : Buf (Elt F) ((c : Thread nD τ).loc main_v1)} (h : ∀ i ∈ outSet c t, g i = outFill c m t i) :
    (oC (rowIx c t)).view.read (Elt F) g = oval m c t := by
  refine ((oC (rowIx c t)).view.read_congr (g := outFill c m t) h).trans ?_
  exact View.read_write_univ _ _

theorem out_glue : iprop((bigSep (Finset.Ico 0 32) fun k => holds m c (oC (rowIx c k)) fullShare (oval m c k)) ∗ leftOut c) ⊢ outDone c m := by
  unfold leftOut left outDone
  simp only [holds_out]
  iintro ⟨Hp, ⟨%f, Hr⟩⟩
  ihave H := (glue (F := F) (outSet c) 32 (out_disj c) (outFill c m) f) $$ [Hp Hr]
  · isplitl [Hp]; · iexact Hp
    iexact Hr
  icases H with ⟨%g, %hg, H⟩
  iexists g
  isplitr
  · ipureintro
    exact fun k hk => fill_read c m k (hg k hk)
  iexact H

end Cert.Proof

end
-- ==== Proof.Entry.lean ====
/-
  From what the launch deals a device to what its body takes.
-/
module

public import proofs.«01_k».proof.Proof.Pieces

@[expose] public section

set_option maxRecDepth 65536

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Tools -/

section Gen

variable {M : Type} [URA M] (Φ : ℕ → sProp M)

theorem ico_from (a n : ℕ) {b : ℕ} (h : b = a + n) : bigSep (Finset.Ico a b) Φ = bigSep (Finset.Ico 0 n) fun i => Φ (a + i) := by
  subst h; exact ico_shift Φ a n

/-- The 78 semaphores of transfers by use. -/
theorem cells_cut : bigSep (Finset.Ico 0 78) Φ
    = iprop(bigSep (Finset.Ico 0 4) Φ ∗ (bigSep (Finset.Ico 0 6) fun i => Φ (4 + i)) ∗ (bigSep (Finset.Ico 0 4) fun i => Φ (10 + i))
        ∗ (bigSep (Finset.Ico 0 16) fun i => Φ (14 + i)) ∗ (bigSep (Finset.Ico 0 16) fun i => Φ (30 + i))
        ∗ (bigSep (Finset.Ico 0 16) fun i => Φ (46 + i)) ∗ bigSep (Finset.Ico 0 16) fun i => Φ (62 + i)) := by
  rw [ico_cat Φ (show 0 ≤ 4 by decide) (show 4 ≤ 78 by decide), ico_cat Φ (show 4 ≤ 10 by decide) (show 10 ≤ 78 by decide),
    ico_cat Φ (show 10 ≤ 14 by decide) (show 14 ≤ 78 by decide), ico_cat Φ (show 14 ≤ 30 by decide) (show 30 ≤ 78 by decide),
    ico_cat Φ (show 30 ≤ 46 by decide) (show 46 ≤ 78 by decide), ico_cat Φ (show 46 ≤ 62 by decide) (show 62 ≤ 78 by decide),
    ico_from Φ 4 6 rfl, ico_from Φ 10 4 rfl, ico_from Φ 14 16 rfl, ico_from Φ 30 16 rfl, ico_from Φ 46 16 rfl, ico_from Φ 62 16 rfl]

theorem ico_emp (a b : ℕ) : (bigSep (Finset.Ico a b) fun _ => iprop(emp)) = (iprop(emp) : sProp M) := bigSep_emp_const _

variable {Φ} in
/-- What is known beside a conjunction goes to each conjunct. -/
theorem ico_know {R : sProp M} [BI.Persistent R] {Ψ : ℕ → sProp M} {a b : ℕ} (h : ∀ i, a ≤ i → i < b → iprop(R ∗ Φ i) ⊢ Ψ i) :
    iprop(R ∗ bigSep (Finset.Ico a b) Φ) ⊢ bigSep (Finset.Ico a b) Ψ :=
  (sep_mono_left (BI.bigSep_of_persistent (Finset.Ico a b) R)).trans (by rw [← bigSep_sep']; exact ico_mono h)

end Gen

variable (m : (ℓ : Loc nD τ sig) → Buf (Elt F) ℓ) (K : Dev nD × Fin 79 → ℕ) (c : Dev nD)

/-! ## What the launch deals -/

/-- Device `c`'s positions in the rounds of its own cells. -/
def positions : sProp 𝕄 := iprop((bigSep (Finset.Ico 0 78) fun q => atPos ER (dcell c q) 0 ∅ 0) ∗ atPos ER (bcell c) 0 ∅ 0)

/-- The duties it pays: of the loads and stores, of its sends' sources, of its sends' destinations, of both peers' barriers. -/
def duties : sProp 𝕄 :=
  iprop((bigSep (Finset.Ico 0 16) fun i => tok c (i % 4) (i / 4)) ∗ (bigSep (Finset.Ico 0 32) fun i => tok c (4 + i % 6) (i / 6))
    ∗ (bigSep (Finset.Ico 0 32) fun i => tok c (10 + i % 4) (i / 4))
    ∗ (bigSep (Finset.Ico 0 16) fun i => tok c (14 + i % 16) 0) ∗ (bigSep (Finset.Ico 0 16) fun i => tok (peerY c) (30 + i % 16) 0)
    ∗ (bigSep (Finset.Ico 0 16) fun i => tok c (46 + i % 16) 0) ∗ (bigSep (Finset.Ico 0 16) fun i => tok (peerX c) (62 + i % 16) 0)
    ∗ dutyTok ER (bcell (peerY c)) 0 false ∗ dutyTok ER (bcell (peerX c)) 0 true)

/-- What the peers will signal it. -/
def credits : sProp 𝕄 :=
  iprop(cred (tallyAt (bcell c) () 2) ∗ (bigSep (Finset.Ico 0 16) fun i => cred (tallyAt (dcell c (30 + i % 16)) () NB))
    ∗ bigSep (Finset.Ico 0 16) fun i => cred (tallyAt (dcell c (62 + i % 16)) () NB))

def scratch : sProp 𝕄 :=
  iprop(whole (F := F) c cc0_scratch0 ∗ whole (F := F) c cc0_scratch1 ∗ whole (F := F) c cc0_scratch2 ∗ whole (F := F) c cc0_scratch3 ∗ whole (F := F) c cc0_scratch4)

/-- What the chunks leave of the buffers. -/
def keep : sProp 𝕄 := iprop(leftRecv c ∗ leftSend c ∗ leftStage c ∗ leftLocal c ∗ leftRes c ∗ leftX c m ∗ leftOut c)

/-! ## To the body -/

variable {m K}

theorem rdy_all : iprop(know m K ∗ bigSep (Finset.Ico 0 78) fun q => atPos ER (dcell c q) 0 ∅ 0)
    ⊢ (bigSep (Finset.Ico 0 78) fun q => rdy c q 0 : sProp 𝕄) := ico_know fun q _ hq => by
  unfold rdy
  iintro ⟨#HG, Hat⟩
  ihave Hk := (know_dma m K c hq) $$ HG
  icases Hk with ⟨-, #H0⟩
  isplitl [Hat]; · iexact Hat
  iexact H0

theorem stFree_of : iprop((bigSep (Finset.Ico 0 4) fun t => any (F := F) c (stageV t)) ∗ bigSep (Finset.Ico 0 4) fun q => rdy c q 0)
    ⊢ bigSep (Finset.Ico 0 4) (stFree c) := by
  rw [← ico_sep]
  refine ico_mono fun i _ hi => Entails.of_eq ?_
  unfold stFree
  rw [Nat.mod_eq_of_lt hi, Nat.div_eq_of_lt hi]

theorem loFree_of : iprop((bigSep (Finset.Ico 0 6) fun t => any (F := F) c (localV t)) ∗ bigSep (Finset.Ico 0 6) fun q => rdy c (4 + q) 0)
    ⊢ bigSep (Finset.Ico 0 6) (loFree c) := by
  rw [← ico_sep]
  refine ico_mono fun i _ hi => Entails.of_eq ?_
  unfold loFree
  rw [Nat.mod_eq_of_lt hi, Nat.div_eq_of_lt hi]

theorem reWin_of : iprop((bigSep (Finset.Ico 0 4) fun t => any (F := F) c (resV t)) ∗ bigSep (Finset.Ico 0 4) fun q => rdy c (10 + q) 0)
    ⊢ bigSep (Finset.Ico 0 4) (reWin c) := by
  rw [← ico_sep]
  refine ico_mono fun i _ hi => Entails.of_eq ?_
  unfold reWin reFree
  rw [if_pos hi, Nat.mod_eq_of_lt hi, Nat.div_eq_of_lt hi]

theorem stIn_of : iprop(bigSep (Finset.Ico 0 16) (xN m c) ∗ bigSep (Finset.Ico 0 16) fun i => tok c (i % 4) (i / 4))
    ⊢ bigSep (Finset.Ico 0 20) (stIn m c) := by
  rw [ico_cat (stIn m c) (show 0 ≤ 16 by decide) (show 16 ≤ 20 by decide),
    ico_congr (Φ := stIn m c) (Ψ := fun _ => iprop(emp)) (a := 16) (b := 20) (fun i hi _ => if_neg (by omega)), ico_emp, ← ico_sep]
  iintro H
  isplitl [H]
  · iapply (ico_mono (Φ := fun i => iprop(xN m c i ∗ tok c (i % 4) (i / 4))) (fun i _ hi => Entails.of_eq (if_pos hi).symm)); iexact H
  iempintro

theorem loIn_of : iprop(bigSep (Finset.Ico 0 32) (xY m c) ∗ bigSep (Finset.Ico 0 32) fun i => tok c (4 + i % 6) (i / 6))
    ⊢ bigSep (Finset.Ico 0 38) (loIn m c) := by
  rw [ico_cat (loIn m c) (show 0 ≤ 32 by decide) (show 32 ≤ 38 by decide),
    ico_congr (Φ := loIn m c) (Ψ := fun _ => iprop(emp)) (a := 32) (b := 38) (fun i hi _ => if_neg (by omega)), ico_emp, ← ico_sep]
  iintro H
  isplitl [H]
  · iapply (ico_mono (Φ := fun i => iprop(xY m c i ∗ tok c (4 + i % 6) (i / 6))) (fun i _ hi => Entails.of_eq (if_pos hi).symm)); iexact H
  iempintro

theorem reIn_of : iprop((bigSep (Finset.Ico 0 32) fun t => any (F := F) c (oC (rowIx c t))) ∗ bigSep (Finset.Ico 0 32) fun i => tok c (10 + i % 4) (i / 4))
    ⊢ bigSep (Finset.Ico 0 32) (reIn c) := by
  rw [← ico_sep]; exact Entails.refl _

theorem syOwn_of : iprop((bigSep (Finset.Ico 0 16) fun t => any (F := F) c (sendV t)) ∗ (bigSep (Finset.Ico 0 16) fun i => rdy c (14 + i) 0)
      ∗ (bigSep (Finset.Ico 0 16) fun i => tok c (14 + i % 16) 0) ∗ bigSep (Finset.Ico 0 16) fun i => tok (peerY c) (30 + i % 16) 0)
    ⊢ bigSep (Finset.Ico 0 16) (syOwn c) := by
  rw [← ico_sep, ← ico_sep, ← ico_sep]
  refine ico_mono fun i _ hi => Entails.of_eq ?_
  unfold syOwn
  rw [Nat.mod_eq_of_lt hi]

theorem sxOwn_of : iprop((bigSep (Finset.Ico 0 16) fun i => rdy c (46 + i) 0)
      ∗ (bigSep (Finset.Ico 0 16) fun i => tok c (46 + i % 16) 0) ∗ bigSep (Finset.Ico 0 16) fun i => tok (peerX c) (62 + i % 16) 0)
    ⊢ (bigSep (Finset.Ico 0 16) (sxOwn c) : sProp 𝕄) := by
  rw [← ico_sep, ← ico_sep]
  refine ico_mono fun i _ hi => Entails.of_eq ?_
  unfold sxOwn
  rw [Nat.mod_eq_of_lt hi]

theorem recvY_of : iprop((bigSep (Finset.Ico 0 16) fun i => cred (tallyAt (dcell c (30 + i % 16)) () NB)) ∗ bigSep (Finset.Ico 0 16) fun i => rdy c (30 + i) 0)
    ⊢ (bigSep (Finset.Ico 0 16) (recvY c) : sProp 𝕄) := by
  rw [← ico_sep]
  refine ico_mono fun i _ hi => ?_
  unfold recvY fly rdy
  rw [show amt (30 + i % 16) = NB from if_neg (by omega), Nat.mod_eq_of_lt hi]
  exact sep_mono_right sep_elim_left

theorem recvX_of : iprop((bigSep (Finset.Ico 0 16) fun i => cred (tallyAt (dcell c (62 + i % 16)) () NB)) ∗ bigSep (Finset.Ico 0 16) fun i => rdy c (62 + i) 0)
    ⊢ (bigSep (Finset.Ico 0 16) (recvX c) : sProp 𝕄) := by
  rw [← ico_sep]
  refine ico_mono fun i _ hi => ?_
  unfold recvX fly rdy
  rw [show amt (62 + i % 16) = NB from if_neg (by omega), Nat.mod_eq_of_lt hi]
  exact sep_mono_right sep_elim_left

theorem entry :
    iprop(know m K ∗ positions c ∗ duties c ∗ credits c ∗ scratch c
      ∗ ((c : Thread nD τ).loc main_arg0 ↦{fullShare} m ((c : Thread nD τ).loc main_arg0))
      ∗ ((c : Thread nD τ).loc main_v1 ↦{fullShare} m ((c : Thread nD τ).loc main_v1)) ∗ owesE c (O₀ c))
    ⊢ iprop(bodyIn m c ∗ keep m c) := by
  unfold positions duties credits scratch
  iintro ⟨#HG, ⟨Hat, Hab⟩, ⟨Ht1, Ht2, Ht3, Ht4, Ht5, Ht6, Ht7, Htb, Htb'⟩, ⟨Hcb, HcY, HcX⟩, ⟨H0, H1, H2, H3, H4⟩, Hx, Ho, HO⟩
  ihave Hr := ((rdy_all c).trans (Entails.of_eq (cells_cut fun q => rdy c q 0))) $$ [Hat]
  · isplitr; · iexact HG
    iexact Hat
  icases Hr with ⟨Hr1, Hr2, Hr3, Hr4, Hr5, Hr6, Hr7⟩
  ihave H0 := ((recv_eq c).1) $$ H0
  icases H0 with ⟨H0, H0', L0⟩
  ihave H1 := ((send_eq c).1) $$ H1
  icases H1 with ⟨H1, L1⟩
  ihave H2 := ((stage_eq c).1) $$ H2
  icases H2 with ⟨H2, L2⟩
  ihave H3 := ((local_eq c).1) $$ H3
  icases H3 with ⟨H3, L3⟩
  ihave H4 := ((res_eq c).1) $$ H4
  icases H4 with ⟨H4, L4⟩
  ihave Hx := ((x_eq c m).1) $$ Hx
  icases Hx with ⟨HxN, HxY, Lx⟩
  ihave Ho := (out_cut c _) $$ Ho
  icases Ho with ⟨Ho, Lo⟩
  unfold bodyIn barIn keep
  isplitr [L0 L1 L2 L3 L4 Lx Lo]
  · isplitl [H0 H0' Htb Htb' Hcb Hab HO]
    · isplitl [H0]; · iexact H0
      isplitl [H0']; · iexact H0'
      isplitl [Htb]; · iexact Htb
      isplitl [Htb']; · iexact Htb'
      isplitl [Hcb]; · iexact Hcb
      isplitl [Hab]; · iexact Hab
      iexact HO
    isplitl [H2 Hr1]
    · iapply (stFree_of c)
      isplitl [H2]; · iexact H2
      iexact Hr1
    isplitl [HxN Ht1]
    · iapply (stIn_of c)
      isplitl [HxN]; · iexact HxN
      iexact Ht1
    isplitl [H1 Hr4 Ht4 Ht5]
    · iapply (syOwn_of c)
      isplitl [H1]; · iexact H1
      isplitl [Hr4]; · iexact Hr4
      isplitl [Ht4]; · iexact Ht4
      iexact Ht5
    isplitl [H3 Hr2]
    · iapply (loFree_of c)
      isplitl [H3]; · iexact H3
      iexact Hr2
    isplitl [HxY Ht2]
    · iapply (loIn_of c)
      isplitl [HxY]; · iexact HxY
      iexact Ht2
    isplitl [H4 Hr3]
    · iapply (reWin_of c)
      isplitl [H4]; · iexact H4
      iexact Hr3
    isplitl [Ho Ht3]
    · iapply (reIn_of c)
      isplitl [Ho]; · iexact Ho
      iexact Ht3
    isplitl [HcY Hr5]
    · iapply (recvY_of c)
      isplitl [HcY]; · iexact HcY
      iexact Hr5
    isplitl [Hr6 Ht6 Ht7]
    · iapply (sxOwn_of c)
      isplitl [Hr6]; · iexact Hr6
      isplitl [Ht6]; · iexact Ht6
      iexact Ht7
    iapply (recvX_of c)
    isplitl [HcX]; · iexact HcX
    iexact Hr7
  isplitl [L0]; · iexact L0
  isplitl [L1]; · iexact L1
  isplitl [L2]; · iexact L2
  isplitl [L3]; · iexact L3
  isplitl [L4]; · iexact L4
  isplitl [Lx]; · iexact Lx
  iexact Lo

end Cert.Proof

end
-- ==== Proof.Exit.lean ====
/-
  From what the body leaves a device to what the launch takes back: every semaphore at zero, every buffer whole.
-/
module

public import proofs.«01_k».proof.Proof.Entry

@[expose] public section

set_option maxRecDepth 65536

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 79 → ℕ} (c : Dev nD)

/-! ## Closing the cells -/

/-- A semaphore of transfers at zero. -/
def zero (q : ℕ) : sProp 𝕄 := semVal (dcell c q) 0

theorem close_dma {q R : ℕ} (hq : q < 78) (hl : ∀ r, R ≤ r → ¬ Live q r) : iprop(know m K ∗ rdy c q R) ⊢ |={Set.univ}=> zero c q := by
  unfold rdy zero
  iintro ⟨#HG, ⟨Hat, -⟩⟩
  ihave Hk := (know_dma m K c hq) $$ HG
  icases Hk with ⟨#HI, -⟩
  imod (Rounds.cell_close ER (Rd m) (Set.mem_univ (K (c, ⟨q, by omega⟩))) (fun h => h) (R := R)
    (fun r hr => duties_dma_none m c hq (hl r hr))) $$ [Hat] with Hz
  · isplitr; · iexact HI
    iexact Hat
  imodintro; iexact Hz

theorem close_bar : iprop(know m K ∗ atPos ER (bcell c) 1 ∅ 0) ⊢ |={Set.univ}=> semVal (bcell c) 0 := by
  iintro ⟨#HG, Hat⟩
  ihave Hk := (know_bar m K c) $$ HG
  icases Hk with ⟨#HI, -⟩
  imod (Rounds.cell_close ER (Rd m) (Set.mem_univ (K (c, ⟨78, by omega⟩))) (fun h => h) (R := 1)
    (fun r hr => duties_bar_none m c hr)) $$ [Hat] with Hz
  · isplitr; · iexact HI
    iexact Hat
  imodintro; iexact Hz

/-- Closing each of several cells. -/
theorem close_all {P P' : ℕ → sProp 𝕄} {a b : ℕ} (h : ∀ i, a ≤ i → i < b → iprop(know m K ∗ P i) ⊢ |={Set.univ}=> P' i) :
    iprop(know m K ∗ bigSep (Finset.Ico a b) P) ⊢ |={Set.univ}=> bigSep (Finset.Ico a b) P' :=
  (ico_know h).trans (bigSep_fupd _ _)

theorem close_one {q : ℕ} (hq : q < 78) (h14 : 14 ≤ q) : iprop(know m K ∗ rdy c q 1) ⊢ |={Set.univ}=> zero c q :=
  close_dma c hq fun r hr => by unfold Live; omega

theorem close_free {q R : ℕ} (A : sProp 𝕄) (hq : q < 78) (hl : ∀ r, R ≤ r → ¬ Live q r) :
    iprop(know m K ∗ A ∗ rdy c q R) ⊢ |={Set.univ}=> iprop(A ∗ zero c q) := by
  iintro ⟨#HG, Ha, Hr⟩
  imod (close_dma c hq hl) $$ [Hr] with Hz
  · isplitr; · iexact HG
    iexact Hr
  imodintro
  isplitl [Ha]; · iexact Ha
  iexact Hz

theorem close_stage : iprop(know m K ∗ bigSep (Finset.Ico 16 20) (stWin c))
    ⊢ |={Set.univ}=> iprop((bigSep (Finset.Ico 0 4) fun i => any c (stageV i)) ∗ bigSep (Finset.Ico 0 4) (zero c)) := by
  rw [ico_from (stWin c) 16 4 rfl, ← ico_sep]
  refine close_all fun i _ hi => ?_
  have h : stWin (F := F) c (16 + i) = iprop(any c (stageV i) ∗ rdy c i ((16 + i) / 4)) := by
    unfold stWin stFree
    rw [if_neg (by omega), stageV_congr (show (16 + i) % 4 = i % 4 by omega), show (16 + i) % 4 = i by omega]
  rw [h]
  exact close_free c _ (by omega) fun r hr => by unfold Live; omega

theorem close_res : iprop(know m K ∗ bigSep (Finset.Ico 32 36) (reFree c))
    ⊢ |={Set.univ}=> iprop((bigSep (Finset.Ico 0 4) fun i => any c (resV i)) ∗ bigSep (Finset.Ico 0 4) fun i => zero c (10 + i)) := by
  rw [ico_from (reFree c) 32 4 rfl, ← ico_sep]
  refine close_all fun i _ hi => ?_
  have h : reFree (F := F) c (32 + i) = iprop(any c (resV i) ∗ rdy c (10 + i) ((32 + i) / 4)) := by
    unfold reFree
    rw [resV_congr (show (32 + i) % 4 = i % 4 by omega), show (32 + i) % 4 = i by omega]
  rw [h]
  exact close_free c _ (by omega) fun r hr => by unfold Live; omega

/-- Six consecutive chunks from 32 use each of six slots once. -/
theorem ico_six (Φ : ℕ → sProp 𝕄) : (bigSep (Finset.Ico 32 38) fun i => Φ (i % 6)) ⊢ bigSep (Finset.Ico 0 6) Φ := by
  rw [ico_cat (fun i => Φ (i % 6)) (show 32 ≤ 36 by decide) (show 36 ≤ 38 by decide), ico_from (fun i => Φ (i % 6)) 32 4 rfl,
    ico_from (fun i => Φ (i % 6)) 36 2 rfl, ico_cat Φ (show 0 ≤ 2 by decide) (show 2 ≤ 6 by decide), ico_from Φ 2 4 rfl,
    ico_congr (Φ := fun i => Φ ((32 + i) % 6)) (Ψ := fun i => Φ (2 + i)) (fun i _ hi => by rw [show (32 + i) % 6 = 2 + i by omega]),
    ico_congr (Φ := fun i => Φ ((36 + i) % 6)) (Ψ := Φ) (fun i _ hi => by rw [show (36 + i) % 6 = i by omega])]
  exact BI.sep_comm

theorem close_local : iprop(know m K ∗ bigSep (Finset.Ico 32 38) (loWin c))
    ⊢ |={Set.univ}=> iprop((bigSep (Finset.Ico 0 6) fun i => any c (localV i)) ∗ bigSep (Finset.Ico 0 6) fun i => zero c (4 + i)) := by
  rw [← ico_sep]
  refine (close_all (P' := fun i => iprop(any c (localV (i % 6)) ∗ zero c (4 + i % 6))) fun i h1 hi => ?_).trans
    (BI.fupd_mono (ico_six fun i => iprop(any c (localV i) ∗ zero c (4 + i))))
  have h : loWin (F := F) c i = iprop(any c (localV (i % 6)) ∗ rdy c (4 + i % 6) (i / 6)) := by
    unfold loWin loFree
    rw [if_neg (by omega), localV_congr (show i % 6 = i % 6 % 6 by omega)]
  rw [h]
  exact close_free c _ (by omega) fun r hr => by unfold Live; omega

theorem close_doneY : iprop(know m K ∗ bigSep (Finset.Ico 0 16) (doneY c)) ⊢ |={Set.univ}=> bigSep (Finset.Ico 0 16) fun i => zero c (30 + i) :=
  close_all fun i _ hi => by unfold doneY; rw [Nat.mod_eq_of_lt hi]; exact close_one c (by omega) (by omega)
theorem close_doneX : iprop(know m K ∗ bigSep (Finset.Ico 0 16) (doneX c)) ⊢ |={Set.univ}=> bigSep (Finset.Ico 0 16) fun i => zero c (62 + i) :=
  close_all fun i _ hi => by unfold doneX; rw [Nat.mod_eq_of_lt hi]; exact close_one c (by omega) (by omega)

theorem close_sent : iprop(know m K ∗ bigSep (Finset.Ico 0 16) (sent c))
    ⊢ |={Set.univ}=> iprop((bigSep (Finset.Ico 0 16) fun i => zero c (14 + i)) ∗ (bigSep (Finset.Ico 0 16) fun i => zero c (46 + i))
        ∗ (bigSep (Finset.Ico 0 16) fun i => any c (sendV i)) ∗ bigSep (Finset.Ico 0 16) fun i => any c (rC (rowIx c i))) := by
  rw [← ico_sep, ← ico_sep, ← ico_sep]
  refine close_all fun i _ hi => ?_
  unfold sent
  rw [Nat.mod_eq_of_lt hi]
  iintro ⟨#HG, H1, H2, Ha⟩
  imod (close_one c (show 14 + i < 78 by omega) (by omega)) $$ [H1] with Hz1
  · isplitr; · iexact HG
    iexact H1
  imod (close_one c (show 46 + i < 78 by omega) (by omega)) $$ [H2] with Hz2
  · isplitr; · iexact HG
    iexact H2
  imodintro
  isplitl [Hz1]; · iexact Hz1
  isplitl [Hz2]; · iexact Hz2
  iexact Ha

/-! ## From the body -/

theorem gotX_any : bigSep (Finset.Ico 0 16) (gotX m c) ⊢ bigSep (Finset.Ico 0 16) fun i => any c (rC (rowIx c (16 + i))) :=
  ico_mono fun i _ _ => holds_any m c _ _

theorem reOut_all : bigSep (Finset.Ico 0 36) (reOut m c) ⊢ bigSep (Finset.Ico 0 32) fun k => holds m c (oC (rowIx c k)) fullShare (oval m c k) := by
  rw [ico_cat (reOut m c) (show 0 ≤ 4 by decide) (show 4 ≤ 36 by decide), ico_from (reOut m c) 4 32 rfl]
  refine sep_elim_right.trans (ico_mono fun i _ _ => Entails.of_eq ?_)
  unfold reOut
  rw [if_neg (by omega), Nat.add_sub_cancel_left]

/-- What the launch takes back. -/
def back : sProp 𝕄 :=
  iprop(scratch c ∗ (bigSep (Finset.Ico 0 78) (zero c)) ∗ semVal (bcell c) 0
    ∗ ((c : Thread nD τ).loc main_arg0 ↦{fullShare} m ((c : Thread nD τ).loc main_arg0)) ∗ outDone c m)

theorem exit :
    iprop(know m K ∗ bodyOut m c ∗ keep m c) ⊢ |={Set.univ}=> iprop(back (m := m) c ∗ owesE c 0) := by
  unfold bodyOut keep back scratch
  rw [cells_cut]
  iintro ⟨#HG, ⟨Hat, HO, HxN, Hst, HxY, Hlo, Hro, Hrf, HdY, HdX, Hs, Hg⟩, ⟨L0, L1, L2, L3, L4, Lx, Lo⟩⟩
  imod (close_bar c) $$ [Hat] with Hzb
  · isplitr; · iexact HG
    iexact Hat
  imod (close_stage c) $$ [Hst] with ⟨H2, Hz1⟩
  · isplitr; · iexact HG
    iexact Hst
  imod (close_local c) $$ [Hlo] with ⟨H3, Hz2⟩
  · isplitr; · iexact HG
    iexact Hlo
  imod (close_res c) $$ [Hrf] with ⟨H4, Hz3⟩
  · isplitr; · iexact HG
    iexact Hrf
  imod (close_doneY c) $$ [HdY] with Hz5
  · isplitr; · iexact HG
    iexact HdY
  imod (close_doneX c) $$ [HdX] with Hz7
  · isplitr; · iexact HG
    iexact HdX
  imod (close_sent c) $$ [Hs] with ⟨Hz4, Hz6, H1, H0⟩
  · isplitr; · iexact HG
    iexact Hs
  imodintro
  isplitr [HO]
  · isplitl [H0 H1 H2 H3 H4 L0 L1 L2 L3 L4 Hg]
    · isplitl [H0 Hg L0]
      · iapply ((recv_eq c).2)
        isplitl [H0]; · iexact H0
        isplitl [Hg]; · iapply (gotX_any c); iexact Hg
        iexact L0
      isplitl [H1 L1]
      · iapply ((send_eq c).2)
        isplitl [H1]; · iexact H1
        iexact L1
      isplitl [H2 L2]
      · iapply ((stage_eq c).2)
        isplitl [H2]; · iexact H2
        iexact L2
      isplitl [H3 L3]
      · iapply ((local_eq c).2)
        isplitl [H3]; · iexact H3
        iexact L3
      iapply ((res_eq c).2)
      isplitl [H4]; · iexact H4
      iexact L4
    isplitl [Hz1 Hz2 Hz3 Hz4 Hz5 Hz6 Hz7]
    · isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      iexact Hz7
    isplitl [Hzb]; · iexact Hzb
    isplitl [HxN HxY Lx]
    · iapply ((x_eq c m).2)
      isplitl [HxN]; · iexact HxN
      isplitl [HxY]; · iexact HxY
      iexact Lx
    iapply (out_glue c m)
    isplitl [Hro]; · iapply (reOut_all c); iexact Hro
    iexact Lo
  iexact HO

/-- The body from what the launch deals to what it takes back. -/
theorem sound_body (Q : PUnit → sProp 𝕄) :
    iprop((know m K ∗ positions c ∗ duties c ∗ credits c ∗ scratch c
        ∗ ((c : Thread nD τ).loc main_arg0 ↦{fullShare} m ((c : Thread nD τ).loc main_arg0))
        ∗ ((c : Thread nD τ).loc main_v1 ↦{fullShare} m ((c : Thread nD τ).loc main_v1)) ∗ owesE c (O₀ c))
      ∗ (iprop(back (m := m) c ∗ owesE c 0) -∗ Q ⟨⟩))
    ⊢ wp frame (wpE (defs₀ (F := F)) 𝒱₀ (c : Thread nD τ) none) Set.univ (body (F := F)) Q := by
  have hb : wp frame (wpE (defs₀ (F := F)) 𝒱₀ (c : Thread nD τ) none) Set.univ (body (F := F)) Q
      = wp frame (wpE (defs₀ (F := F)) 𝒱₀ (c : Thread nD τ) none) Set.univ (bodyAt (F := F) (canonOffs c)) Q := by
    unfold body
    simp only [Prog.lift, Prog.bind_op, Prog.bind_ret]
    rw [wp_deviceId]
    exact congrArg (fun O => wp frame (wpE (defs₀ (F := F)) 𝒱₀ (c : Thread nD τ) none) Set.univ (bodyAt (F := F) O) Q) (genOffs_eq c)
  rw [hb]
  iintro ⟨⟨#HG, Hrest⟩, HK⟩
  ihave H := (entry (K := K) c) $$ [Hrest]
  · isplitr; · iexact HG
    iexact Hrest
  icases H with ⟨Hin, Hkeep⟩
  iapply wp_fupd
  iapply (tri_body (m := m) (K := K) c fun a => iprop(|={Set.univ}=> Q a))
  isplitr; · iexact HG
  isplitl [Hin]; · iexact Hin
  iintro Hout
  imod (exit (K := K) c) $$ [Hout Hkeep] with H
  · isplitr; · iexact HG
    isplitl [Hout]; · iexact Hout
    iexact Hkeep
  imodintro
  iapply HK
  iexact H

end Cert.Proof

end
-- ==== Proof.Deal.lean ====
/-
  What the launch makes and deals: the cells, the rounds' duties, and the units owed at the start.
-/
module

public import proofs.«01_k».proof.Proof.Exit

@[expose] public section

set_option maxRecDepth 65536

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Cells by number -/

/-- Cell `q` of device `c`: the 78 of transfers, then the barrier. -/
def ncell (q : ℕ) : GSem nD τ sig := ((c : Thread nD τ), if q < 78 then .dma (dsem q) else .reg barS)

theorem ncell_dma {q : ℕ} (h : q < 78) : ncell c q = dcell c q := by unfold ncell; rw [if_pos h]
theorem ncell_bar : ncell c 78 = bcell c := by unfold ncell; rw [if_neg (by decide)]
theorem kcell_eq (k : Fin 79) : kcell (c, k) = ncell c k.val := rfl

theorem dcell_inj {c c' : Dev nD} {q q' : ℕ} (hq : q < 78) (hq' : q' < 78) (h : dcell c q = dcell c' q') : c = c' ∧ q = q' := by
  refine ⟨congrArg (fun g : GSem nD τ sig => g.1.1) h, ?_⟩
  have h2 : dsem q = dsem q' := SemLoc.dma.inj (congrArg Prod.snd h)
  rw [← dsem_val hq, ← dsem_val hq', h2]

theorem ncell_inj {c c' : Dev nD} {q q' : ℕ} (hq : q < 79) (hq' : q' < 79) (h : ncell c q = ncell c' q') : c = c' ∧ q = q' := by
  by_cases a : q < 78 <;> by_cases b : q' < 78
  · rw [ncell_dma c a, ncell_dma c' b] at h; exact dcell_inj a b h
  · rw [ncell_dma c a, show q' = 78 by omega, ncell_bar] at h; cases congrArg Prod.snd h
  · rw [ncell_dma c' b, show q = 78 by omega, ncell_bar] at h; cases congrArg Prod.snd h
  · exact ⟨congrArg (fun g : GSem nD τ sig => g.1.1) h, by omega⟩

theorem kcell_inj : Function.Injective (kcell : Dev nD × Fin 79 → GSem nD τ sig) := by
  rintro ⟨c, k⟩ ⟨c', k'⟩ h
  obtain ⟨rfl, h2⟩ := ncell_inj k.isLt k'.isLt h
  rw [Fin.ext h2]

/-- Something for each cell of device `c`. -/
theorem cells_eq (Φ : GSem nD τ sig → sProp 𝕄) :
    (bigSep Finset.univ fun k : Fin 79 => Φ (kcell (c, k))) = iprop((bigSep (Finset.Ico 0 78) fun q => Φ (dcell c q)) ∗ Φ (bcell c)) := by
  rw [show (fun k : Fin 79 => Φ (kcell (c, k))) = fun k : Fin 79 => (fun q => Φ (ncell c q)) k.val from rfl, ico_fin (fun q => Φ (ncell c q)) 79,
    ico_push (fun q => Φ (ncell c q)) (show 0 ≤ 78 by decide), ncell_bar,
    ico_congr (Φ := fun q => Φ (ncell c q)) (Ψ := fun q => Φ (dcell c q)) fun q _ hq => by rw [ncell_dma c hq]]

/-! ## The duties -/

/-- Duty `t` of a device's own cells: its cell's number, its round and its name, -/
def tq (t : ℕ) : ℕ :=
  if t < 16 then t % 4 else if t < 48 then 4 + (t - 16) % 6 else if t < 80 then 10 + (t - 48) % 4 else if t < 144 then t - 66 else 78
def tr (t : ℕ) : ℕ := if t < 16 then t / 4 else if t < 48 then (t - 16) / 6 else if t < 80 then (t - 48) / 4 else 0
def td (t : ℕ) : Bool := t == 145
/-- and the number again from these. -/
def tn (q r : ℕ) (d : Bool) : ℕ :=
  if q < 4 then 4 * r + q else if q < 10 then 16 + 6 * r + (q - 4) else if q < 14 then 48 + 4 * r + (q - 10) else if q < 78 then q + 66
  else if d then 145 else 144

theorem tn_eq : ∀ t : Fin 146, tn (tq t.val) (tr t.val) (td t.val) = t.val := by decide
theorem tq_lt (t : ℕ) : tq t < 79 := by unfold tq; (repeat' split) <;> omega

abbrev tokOf (ct : Dev nD × Fin 146) : GSem nD τ sig × ℕ × Bool := (ncell ct.1 (tq ct.2.val), tr ct.2.val, td ct.2.val)

theorem tokOf_inj : Function.Injective (tokOf : Dev nD × Fin 146 → GSem nD τ sig × ℕ × Bool) := by
  rintro ⟨c, t⟩ ⟨c', t'⟩ h
  obtain ⟨rfl, h1⟩ := ncell_inj (tq_lt _) (tq_lt _) (congrArg Prod.fst h)
  have h2 : tr t.val = tr t'.val := congrArg (fun x : GSem nD τ sig × ℕ × Bool => x.2.1) h
  have h3 : td t.val = td t'.val := congrArg (fun x : GSem nD τ sig × ℕ × Bool => x.2.2) h
  have : t.val = t'.val := by rw [← tn_eq t, ← tn_eq t', h1, h2, h3]
  rw [Fin.ext this]

/-- The duties of device `c`'s own cells. -/
def ownDuties : sProp 𝕄 :=
  iprop((bigSep (Finset.Ico 0 16) fun i => tok c (i % 4) (i / 4)) ∗ (bigSep (Finset.Ico 0 32) fun i => tok c (4 + i % 6) (i / 6))
    ∗ (bigSep (Finset.Ico 0 32) fun i => tok c (10 + i % 4) (i / 4))
    ∗ (bigSep (Finset.Ico 0 16) fun i => tok c (14 + i % 16) 0) ∗ (bigSep (Finset.Ico 0 16) fun i => tok c (30 + i % 16) 0)
    ∗ (bigSep (Finset.Ico 0 16) fun i => tok c (46 + i % 16) 0) ∗ (bigSep (Finset.Ico 0 16) fun i => tok c (62 + i % 16) 0)
    ∗ dutyTok ER (bcell c) 0 false ∗ dutyTok ER (bcell c) 0 true)

/-- Duty `t` held. -/
def ntok (t : ℕ) : sProp 𝕄 := dutyTok ER (ncell c (tq t)) (tr t) (td t)

theorem ntok_eq {t q r : ℕ} (hq : q < 78) (h : t < 144) (h1 : tq t = q) (h2 : tr t = r) : ntok (F := F) c t = tok c q r := by
  unfold ntok tok
  rw [h1, h2, ncell_dma c hq, show td t = false from by unfold td; exact beq_eq_false_iff_ne.mpr (by omega)]

theorem ownDuties_eq : (bigSep Finset.univ fun t : Fin 146 => ntok (F := F) c t.val) = ownDuties c := by
  have one : ∀ (a q : ℕ), 80 ≤ a → a + 16 ≤ 144 → a - 66 = q → (bigSep (Finset.Ico 0 16) fun i => ntok (F := F) c (a + i))
      = bigSep (Finset.Ico 0 16) fun i => tok c (q + i % 16) 0 := fun a q h1 h2 h3 => ico_congr fun i _ hi => by
    exact ntok_eq c (by omega) (by omega)
      (by unfold tq; rw [if_neg (by omega), if_neg (by omega), if_neg (by omega), if_pos (by omega)]; omega)
      (by unfold tr; rw [if_neg (by omega), if_neg (by omega), if_neg (by omega)])
  rw [ico_fin (ntok (F := F) c) 146, ico_cat _ (show 0 ≤ 16 by decide) (show 16 ≤ 146 by decide), ico_cat _ (show 16 ≤ 48 by decide) (show 48 ≤ 146 by decide),
    ico_cat _ (show 48 ≤ 80 by decide) (show 80 ≤ 146 by decide), ico_cat _ (show 80 ≤ 96 by decide) (show 96 ≤ 146 by decide),
    ico_cat _ (show 96 ≤ 112 by decide) (show 112 ≤ 146 by decide), ico_cat _ (show 112 ≤ 128 by decide) (show 128 ≤ 146 by decide),
    ico_cat _ (show 128 ≤ 144 by decide) (show 144 ≤ 146 by decide), ico_from _ 16 32 rfl, ico_from _ 48 32 rfl, ico_from _ 80 16 rfl,
    ico_from _ 96 16 rfl, ico_from _ 112 16 rfl, ico_from _ 128 16 rfl, one 80 14 (by decide) (by decide) rfl, one 96 30 (by decide) (by decide) rfl,
    one 112 46 (by decide) (by decide) rfl, one 128 62 (by decide) (by decide) rfl,
    ico_congr (Φ := ntok (F := F) c) (Ψ := fun i => tok c (i % 4) (i / 4)) (fun i _ hi => ntok_eq c (by omega) (by omega)
      (by unfold tq; rw [if_pos hi]) (by unfold tr; rw [if_pos hi])),
    ico_congr (Φ := fun i => ntok (F := F) c (16 + i)) (Ψ := fun i => tok c (4 + i % 6) (i / 6)) (fun i _ hi => ntok_eq c (by omega) (by omega)
      (by unfold tq; rw [if_neg (by omega), if_pos (by omega), Nat.add_sub_cancel_left])
      (by unfold tr; rw [if_neg (by omega), if_pos (by omega), Nat.add_sub_cancel_left])),
    ico_congr (Φ := fun i => ntok (F := F) c (48 + i)) (Ψ := fun i => tok c (10 + i % 4) (i / 4)) (fun i _ hi => ntok_eq c (by omega) (by omega)
      (by unfold tq; rw [if_neg (by omega), if_neg (by omega), if_pos (by omega), Nat.add_sub_cancel_left])
      (by unfold tr; rw [if_neg (by omega), if_neg (by omega), if_pos (by omega), Nat.add_sub_cancel_left])),
    ico_pop (ntok (F := F) c) (show 144 < 146 by decide), show Finset.Ico (144 + 1) 146 = {145} from rfl, bigSep_singleton]
  have e0 : ntok (F := F) c 144 = dutyTok ER (bcell c) 0 false := by
    show dutyTok ER (ncell c 78) 0 false = _; rw [ncell_bar]
  have e1 : ntok (F := F) c 145 = dutyTok ER (bcell c) 0 true := by
    show dutyTok ER (ncell c 78) 0 true = _; rw [ncell_bar]
  rw [e0, e1]
  rfl

/-- The duties dealt to the devices that pay them. -/
theorem deal : (bigSep Finset.univ fun c : Dev nD => ownDuties (F := F) c) ⊢ bigSep Finset.univ fun c : Dev nD => duties c := by
  unfold ownDuties duties
  simp only [bigSep_sep']
  rw [bigSep_univ_equiv eqvY (fun c : Dev nD => (bigSep (Finset.Ico 0 16) fun i => tok (F := F) c (30 + i % 16) 0)),
    bigSep_univ_equiv eqvX (fun c : Dev nD => (bigSep (Finset.Ico 0 16) fun i => tok (F := F) c (62 + i % 16) 0)),
    bigSep_univ_equiv eqvY (fun c : Dev nD => (dutyTok ER (bcell c) 0 false : sProp 𝕄)),
    bigSep_univ_equiv eqvX (fun c : Dev nD => (dutyTok ER (bcell c) 0 true : sProp 𝕄))]
  exact Entails.refl _

/-! ## The units owed -/

theorem sum_at {A : Type} (s : Finset A) (f : A → CellTallies nD τ sig Unit) (g : GSem nD τ sig) (u : Unit) :
    (∑ i ∈ s, f i) g u = ∑ i ∈ s, f i g u := by
  rw [Finset.sum_apply, Finsupp.finset_sum_apply]

/-- What is owed for the sixteen transfers into `c'` from semaphore `a` on, at a cell. -/
theorem sends_at (c c' : Dev nD) {a q : ℕ} (ha : a + 16 ≤ 78) (hq : q < 78) :
    (∑ i ∈ Finset.Ico 0 16, tallyAt (dcell c' (a + i % 16)) () NB : CellTallies nD τ sig Unit) (dcell c q) ()
      = if c = c' ∧ a ≤ q ∧ q < a + 16 then NB else 0 := by
  rw [sum_at]
  by_cases h : c = c' ∧ a ≤ q ∧ q < a + 16
  · rw [if_pos h, Finset.sum_eq_single (q - a)]
    · rw [tallyAt_apply, if_pos ⟨by rw [h.1, show a + (q - a) % 16 = q by omega], rfl⟩]
    · intro i hi hne
      have hi := (Finset.mem_Ico.mp hi).2
      rw [tallyAt_apply, if_neg]
      rintro ⟨e, -⟩
      have := (dcell_inj hq (by omega) e).2
      omega
    · intro hn
      exact absurd (Finset.mem_Ico.mpr ⟨Nat.zero_le _, by omega⟩) hn
  · rw [if_neg h]
    refine Finset.sum_eq_zero fun i hi => ?_
    have hi := (Finset.mem_Ico.mp hi).2
    rw [tallyAt_apply, if_neg]
    rintro ⟨e, -⟩
    have := dcell_inj hq (by omega) e
    exact h ⟨this.1, by omega⟩

theorem bar_dma (c c' : Dev nD) (q k : ℕ) : (tallyAt (bcell c') () k : CellTallies nD τ sig Unit) (dcell c q) () = 0 := by
  rw [tallyAt_apply, if_neg]
  rintro ⟨e, -⟩
  cases congrArg Prod.snd e
theorem sends_bar (c c' : Dev nD) (a : ℕ) :
    (∑ i ∈ Finset.Ico 0 16, tallyAt (dcell c' (a + i % 16)) () NB : CellTallies nD τ sig Unit) (bcell c) () = 0 := by
  rw [sum_at]
  refine Finset.sum_eq_zero fun i _ => ?_
  rw [tallyAt_apply, if_neg]
  rintro ⟨e, -⟩
  cases congrArg Prod.snd e
theorem bar_bar (c c' : Dev nD) : (tallyAt (bcell c') () 1 : CellTallies nD τ sig Unit) (bcell c) () = if c = c' then 1 else 0 := by
  rw [tallyAt_apply]
  by_cases h : c = c'
  · rw [if_pos h, if_pos ⟨by rw [h], rfl⟩]
  · rw [if_neg h, if_neg]
    rintro ⟨e, -⟩
    exact h (congrArg (fun g : GSem nD τ sig => g.1.1) e)

theorem eq_peerY (c d : Dev nD) : Iff (c = peerY d) (d = peerY c) :=
  ⟨fun h => by rw [h, peerY_peerY], fun h => by rw [h, peerY_peerY]⟩
theorem eq_peerX (c d : Dev nD) : Iff (c = peerX d) (d = peerX c) :=
  ⟨fun h => by rw [h, peerX_peerX], fun h => by rw [h, peerX_peerX]⟩

theorem owed_at (d : Dev nD) (g : GSem nD τ sig) : O₀ d g ()
    = OY d 0 g () + OX d 0 g () + (tallyAt (bcell (peerX d)) () 1 : CellTallies nD τ sig Unit) g ()
      + (tallyAt (bcell (peerY d)) () 1 : CellTallies nD τ sig Unit) g () := by
  unfold O₀ O₁
  rw [Pi.add_apply, Finsupp.add_apply, Pi.add_apply, Finsupp.add_apply, Pi.add_apply, Finsupp.add_apply]

theorem owed_bar : ∑ d : Dev nD, O₀ d (bcell c) () = 2 := by
  have h : ∀ d : Dev nD, O₀ d (bcell c) () = (if d = peerX c then 1 else 0) + if d = peerY c then 1 else 0 := fun d => by
    rw [owed_at, bar_bar, bar_bar]
    unfold OY OX
    rw [sends_bar, sends_bar, if_congr (eq_peerX c d) rfl rfl, if_congr (eq_peerY c d) rfl rfl, Nat.zero_add]
  rw [Finset.sum_congr rfl fun d _ => h d, Finset.sum_add_distrib, Finset.sum_ite_eq', Finset.sum_ite_eq', if_pos (Finset.mem_univ _),
    if_pos (Finset.mem_univ _)]

theorem owed_dma {q : ℕ} (hq : q < 78) (hr : 30 ≤ q ∧ q < 46 ∨ 62 ≤ q) : ∑ d : Dev nD, O₀ d (dcell c q) () = NB := by
  have h : ∀ d : Dev nD, O₀ d (dcell c q) () = (if c = peerY d ∧ 30 ≤ q ∧ q < 46 then NB else 0) + if c = peerX d ∧ 62 ≤ q ∧ q < 78 then NB else 0 :=
    fun d => by
      rw [owed_at, bar_dma, bar_dma]
      unfold OY OX
      rw [sends_at c (peerY d) (a := 30) (by decide) hq, sends_at c (peerX d) (a := 62) (by decide) hq, Nat.add_zero, Nat.add_zero]
  rw [Finset.sum_congr rfl fun d _ => h d, Finset.sum_add_distrib]
  rcases hr with hr | hr
  · rw [Finset.sum_congr (g := fun d => if d = peerY c then NB else 0) rfl fun d _ => if_congr
        ⟨fun h => (eq_peerY c d).1 h.1, fun h => ⟨(eq_peerY c d).2 h, hr⟩⟩ rfl rfl,
      Finset.sum_ite_eq', if_pos (Finset.mem_univ _), Finset.sum_eq_zero fun d _ => if_neg (by omega), Nat.add_zero]
  · rw [Finset.sum_eq_zero fun d _ => if_neg (by omega), Nat.zero_add,
      Finset.sum_congr (g := fun d => if d = peerX c then NB else 0) rfl fun d _ => if_congr
        ⟨fun h => (eq_peerX c d).1 h.1, fun h => ⟨(eq_peerX c d).2 h, hr, hq⟩⟩ rfl rfl,
      Finset.sum_ite_eq', if_pos (Finset.mem_univ _)]

theorem launch_at (g : GSem nD τ sig) {k : ℕ} (h : ∑ d : Dev nD, O₀ d g () = k) :
    tallyOn g (launchCredit (Pipeline.owing O₀) 0 g) = (tallyAt g () k : CellTallies nD τ sig Unit) := by
  unfold tallyAt
  refine congrArg _ (Finsupp.ext fun u => ?_)
  cases u
  rw [Pipeline.launchCredit_owing, Finsupp.single_eq_same, h]

/-- The launch's credit of a cell. -/
def credOf (g : GSem nD τ sig) : sProp 𝕄 := cred (tallyOn g (launchCredit (Pipeline.owing O₀) 0 g))

theorem creds : (Pipeline.launchCred O₀ c : sProp 𝕄) ⊢ credits c := by
  have hinj : Function.Injective (csem : Fin 79 → SemLoc sig) := fun k k' h => by
    have := kcell_inj (a₁ := (c, k)) (a₂ := (c, k')) (congrArg (fun s => (((c : Thread nD τ), s) : GSem nD τ sig)) h)
    exact congrArg Prod.snd this
  have h0 : (Pipeline.launchCred O₀ c : sProp 𝕄) ⊢ bigSep Finset.univ fun k : Fin 79 => credOf (F := F) (kcell (c, k)) := by
    unfold Pipeline.launchCred
    refine (BI.bigSep_subset (Finset.subset_univ (Finset.univ.map ⟨csem, hinj⟩))).trans ?_
    rw [bigSep_map]
    exact Entails.refl _
  refine h0.trans ?_
  rw [cells_eq c credOf, cells_cut]
  unfold credits
  have hd : ∀ a, a = 30 ∨ a = 62 → (bigSep (Finset.Ico 0 16) fun i => credOf (F := F) (dcell c (a + i)))
      ⊢ bigSep (Finset.Ico 0 16) fun i => cred (tallyAt (dcell c (a + i % 16)) () NB) := fun a ha => ico_mono fun i _ hi => by
    unfold credOf
    rw [launch_at (dcell c (a + i)) (owed_dma c (by omega) (by omega)), Nat.mod_eq_of_lt hi]
  iintro ⟨⟨-, -, -, -, HY, -, HX⟩, Hb⟩
  isplitl [Hb]
  · unfold credOf; rw [launch_at (bcell c) (owed_bar c)]; iexact Hb
  isplitl [HY]
  · iapply (hd 30 (Or.inl rfl)); iexact HY
  iapply (hd 62 (Or.inr rfl)); iexact HX

end Cert.Proof

end
-- ==== Proof.ProgEq.lean ====
/-
  The printed body is the loops of `Prog.lean`.
-/
module

public import proofs.«01_k».proof.Proof.Prog

@[expose] public section

set_option maxRecDepth 65536

noncomputable section

namespace Cert.Proof

open Idealize.ShloMosaic Idealize.ShloMosaic.TcCoe
open Idealize.SL.Sem
open Cert.KernelIdeal Cert.KernelIdeal.Gen

variable {F : FTy → Type} [FloatOps F]

/-- The printed body, at the buffers it is called with, is `body`. -/
theorem bodyAt0_eq (t : Fin cfg0.N) : (bodyAt0 t : TProg F) = body := by
  chain_rfl

end Cert.Proof

end
-- ==== Proof.Launch.lean ====
/-
  The launch: the four devices run the body, and the result and the argument are read off at the end.
-/
module

public import proofs.«01_k».proof.Proof.Deal
public import proofs.«01_k».proof.Proof.ProgEq
public import Idealize.ShloMosaic.Lib.Pipeline.CollectiveSegs

@[expose] public section

set_option maxRecDepth 65536

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-- The state a run starts from. -/
abbrev s₀ : MemSt nD τ sig (Elt F) := ⟨m, fun _ => 0, ρ⟩

/-! ## Cells and duties made -/

/-- The kernel's own semaphores. -/
def osem : Fin 78 → SemLoc sig := fun i => .dma (dsem i.val)

theorem ownSemFacts : Pipeline.OwnSemFacts cfg0.spec osem where
  isScoped := by decide
  inj := fun i j h => Fin.ext (by
    have h2 : dsem i.val = dsem j.val := SemLoc.dma.inj h
    rw [← dsem_val i.isLt, ← dsem_val j.isLt, h2])
  disj := fun _ w => w.elim0

def ringCells : Finset (GSem nD τ sig) := Finset.univ.map ⟨kcell, kcell_inj⟩
def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

/-- What the launch's element deals device `c`. -/
def G (c : Dev nD) : sProp 𝕄 :=
  iprop((bigSep Finset.univ fun k : Fin 79 => roundState ER (Rd m) (kcell (c, k)) 0)
    ∗ (bigSep Finset.univ fun k : Fin 79 => atPos ER (kcell (c, k)) 0 ∅ 0) ∗ (bigSep Finset.univ fun k : Fin 79 => reached ER (kcell (c, k)) 0)
    ∗ ownDuties c)

/-- What it has once the cells are allocated. -/
def G' (c : Dev nD) : sProp 𝕄 := iprop(∃ K, records m K ∗ positions c ∗ duties c)

theorem fund_cells : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 79 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownDuties c := by
    unfold ringToks; rw [bigSep_map, bigSep_univ_prod]
    exact bigSep_congr fun c _ => ownDuties_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem ownSems0_eq (c : Dev nD) : (Pipeline.ownSems0 (Ix := Unit) (Name := ℕ) (U := UU) (Lvl := ℕ) (Val := Elt F) (τ := τ) osem c : sProp 𝕄)
    = bigSep (Finset.Ico 0 78) (zero c) := ico_fin (zero (F := F) c) 78
theorem unscopedSems0_eq (c : Dev nD) : (unscopedSems0 c : sProp 𝕄) = semVal (bcell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 79 => iprop(∃ κ : ℕ, cellInv ER (Rd m) κ (kcell (c, k))))
          ∗ (bigSep Finset.univ fun k : Fin 79 => reached ER (kcell (c, k)) 0) ∗ positions c ∗ ownDuties c) := by
  unfold G positions
  rw [ownSems0_eq, unscopedSems0_eq, ← cells_eq c fun g => atPos ER g 0 ∅ 0]
  iintro ⟨Hos, Hus, Hst, Hat, Hr, Htok⟩
  imod (show iprop((bigSep Finset.univ fun k : Fin 79 => semVal (kcell (c, k)) 0) ∗ bigSep Finset.univ fun k : Fin 79 => roundState ER (Rd m) (kcell (c, k)) 0)
      ⊢ (|={Set.univ}=> bigSep Finset.univ fun k : Fin 79 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hos Hus Hst] with Hinv
  · isplitl [Hos Hus]
    · iapply (Entails.of_eq (cells_eq c fun g => semVal g 0).symm)
      isplitl [Hos]; · iexact Hos
      iexact Hus
    iexact Hst
  imodintro
  isplitl [Hinv]; · iexact Hinv
  isplitl [Hr]; · iexact Hr
  isplitl [Hat]; · iexact Hat
  iexact Htok

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 79 => iprop(∃ κ : ℕ, cellInv ER (Rd m) κ (kcell (c, k))))
          ∗ (bigSep Finset.univ fun k : Fin 79 => reached ER (kcell (c, k)) 0) ∗ positions c ∗ ownDuties c) : sProp 𝕄)
      ⊢ bigSep Finset.univ (G' m) := by
  rw [bigSep_sep', bigSep_sep', bigSep_sep', ← bigSep_univ_prod (fun ck : Dev nD × Fin 79 => iprop(∃ κ : ℕ, cellInv ER (Rd m) κ (kcell ck))),
    ← bigSep_univ_prod (fun ck : Dev nD × Fin 79 => (reached ER (kcell ck) 0 : sProp 𝕄))]
  iintro ⟨HI, #HR, Hat, Htok⟩
  ihave HK := (BI.bigSep_exists_pi Finset.univ (fun (ck : Dev nD × Fin 79) (κ : ℕ) => (cellInv ER (Rd m) κ (kcell ck) : sProp 𝕄))) $$ HI
  icases HK with ⟨%K, #HI⟩
  ihave Htk := (deal (F := F)) $$ Htok
  iapply (with_known (R := records m K) (Φ := fun c => iprop(positions c ∗ duties c)) fun c _ => by
    unfold G'
    iintro ⟨#H1, H2⟩
    iexists K
    isplitr; · iexact H1
    iexact H2)
  isplitr
  · unfold records; rw [bigSep_sep']
    isplitl; · iexact HI
    iexact HR
  · rw [bigSep_sep']
    isplitl [Hat]; · iexact Hat
    iexact Htk

/-- Every device's semaphores made cells at once, and the duties dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The body as the launch runs it -/

/-- What a device's body starts from besides its scratch buffers. -/
def start (c : Dev nD) : sProp 𝕄 :=
  iprop((∃ K, know m K ∗ positions c ∗ duties c) ∗ credits c
    ∗ ((c : Thread nD τ).loc main_arg0 ↦{fullShare} m ((c : Thread nD τ).loc main_arg0))
    ∗ ((c : Thread nD τ).loc main_v1 ↦{fullShare} m ((c : Thread nD τ).loc main_v1)))

def Φ₀ (c : Dev nD) : sProp 𝕄 := iprop(start m c ∗ scratch c)
def Φ₁ (c : Dev nD) : sProp 𝕄 := back (m := m) c

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem no_windows (Ψ : Fin cfg0.W → sProp 𝕄) : bigSep Finset.univ Ψ = iprop(emp) := by
  rw [show (Finset.univ : Finset (Fin cfg0.W)) = ∅ from rfl, bigSep_empty]; rfl

theorem body_obligation (c : Dev nD) : BodyObligation (dats (F := F) m 0 c) (defs₀ (F := F)) 𝒱₀ () Set.univ := fun t => by
  rw [fin_N0 t, no_windows, no_windows]
  show iprop(Φ₀ m c ∗ (dats m 0 c).owesAt () t0_0.castSucc ∗ emp) ⊢ wp frame (wpE (defs₀ (F := F)) 𝒱₀ c none) Set.univ (bodyAt0 t0_0 : TProg F)
    fun _ => iprop(Φ₁ m c ∗ (dats m 0 c).owesAt () t0_0.succ ∗ emp)
  rw [bodyAt0_eq]
  unfold Φ₀ Φ₁ start Dat.owesAt Pipeline.owesWithin
  rw [show (dats m 0 c).owed t0_0.castSucc = O₀ c from rfl, show (dats m 0 c).owed t0_0.succ = 0 from rfl]
  iintro ⟨⟨⟨⟨%K, #Hk, Hpos, Hdut⟩, Hcr, Hx, Ho⟩, Hscr⟩, ⟨%W, -, HO⟩, -⟩
  iapply (sound_body (m := m) (K := K) c)
  isplitl [Hpos Hdut Hcr Hx Ho Hscr HO]
  · isplitr; · iexact Hk
    isplitl [Hpos]; · iexact Hpos
    isplitl [Hdut]; · iexact Hdut
    isplitl [Hcr]; · iexact Hcr
    isplitl [Hscr]; · iexact Hscr
    isplitl [Hx]; · iexact Hx
    isplitl [Ho]; · iexact Ho
    unfold owesE; iexists W; iexact HO
  unfold owesE
  iintro ⟨Hb, ⟨%W', HO⟩⟩
  isplitl [Hb]; · iexact Hb
  isplitl [HO]
  · iexists W'
    isplitr; · ipureintro; exact fun _ _ => Or.inl trivial
    iexact HO
  iempintro

/-! ## The launch's sides -/

theorem share_eq (c : Dev nD) (w : Fin cfg0.W) : (dats m 0 c).share w = fullShare := w.elim0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' know
  iintro ⟨⟨Hx, Ho⟩, #Hlev, Hcr, -, ⟨%K, #HR, Hpos, Hdut⟩⟩
  ihave Hc := (creds (F := F) c) $$ Hcr
  imodintro
  isplitl
  · isplitl [Hpos Hdut]
    · iexists K
      isplitr
      · isplitr; · iexact HR
        iexact Hlev
      isplitl [Hpos]; · iexact Hpos
      iexact Hdut
    isplitl [Hc]; · iexact Hc
    isplitl [Hx]; · iexact Hx
    iexact Ho
  iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch whole
  iintro ⟨Hs, -, Hr⟩
  isplitl [Hs]; · iexact Hs
  iexact Hr

/-- What a device leaves: its barrier cell, its argument and its result. -/
def done (c : Dev nD) : sProp 𝕄 :=
  iprop(unscopedSems0 c ∗ ((c : Thread nD τ).loc main_arg0 ↦{fullShare} m ((c : Thread nD τ).loc main_arg0)) ∗ outDone c m)

theorem phi1_exit (c : Dev nD) :
    (dats m 0 c).Φ (Fin.last cfg0.N) ⊢ iprop(done m c ∗ Pipeline.ownSems0 osem c ∗ Pipeline.scopedRest cfg0.spec c) := by
  rw [show (dats m 0 c).Φ (Fin.last cfg0.N) = Φ₁ m c from rfl, scopedRest0_eq, ownSems0_eq]
  unfold Φ₁ back done scratch whole
  rw [unscopedSems0_eq]
  iintro ⟨Hr, Hz, Hb, Hx, Ho⟩
  isplitl [Hb Hx Ho]
  · isplitl [Hb]; · iexact Hb
    isplitl [Hx]; · iexact Hx
    iexact Ho
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w => w.elim0

/-- What a final state is to be, of device `c`. -/
def QY (c : Dev nD) (s : MemSt nD τ sig (Elt F)) : Prop :=
  s.mem ((c : Thread nD τ).loc main_arg0) = m ((c : Thread nD τ).loc main_arg0) ∧ Result c m (s.mem ((c : Thread nD τ).loc main_v1))

theorem read_done (c : Dev nD) (s' : Phys nD τ sig (Elt F)) :
    iprop(done m c ∗ emp ∗ SI s') ⊢ |={Set.univ}=> iprop(⌜QY m c s'.mem ∧ ∀ sm : SemLoc sig, sm.isScoped .tc = false → s'.mem.sem ((c.tc : Thread nD τ), sm) = 0⌝ ∗ SI s') := by
  unfold done outDone
  iintro ⟨⟨Hu, Hx, ⟨%g, %hg, Ho⟩⟩, -, HSI⟩
  ihave %hx := (SI_pointsTo_agree (st := s')) $$ [HSI Hx]
  · isplitl [HSI]; · iexact HSI
    iexact Hx
  ihave %ho := (SI_pointsTo_agree (st := s')) $$ [HSI Ho]
  · isplitl [HSI]; · iexact HSI
    iexact Ho
  imod (Pipeline.unscopedSems0_read (X := unscopedSems0 c) (c := c) fupd_intro s') $$ [Hu HSI] with ⟨%hz, HSI⟩
  · isplitl [Hu] <;> iassumption
  imodintro
  isplitr
  · ipureintro
    have e : s'.mem.mem ((c : Thread nD τ).loc main_v1) = g := funext fun i => ho i (Finset.mem_univ i)
    refine ⟨⟨funext fun i => hx i (Finset.mem_univ i), ?_⟩, hz⟩
    rw [e]; exact hg
  iexact HSI

/-! ## The run -/

/-- From any memory with all counters at zero, every weakly fair execution ends; in every final state each device's
    argument is as it was, its result as computed, and every counter at zero. -/
theorem run_main : θ_run defs (onTc (τ := τ) (main (F := F))) (s₀ m ρ) (fun r => (∀ c, QY m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := start m) (Y := done m) (Z := fun _ => iprop(emp))
    (hX := start_intro m ρ) (hin := phi0_intro m) (hout := phi1_exit m)
    (QY := fun c s => QY m c s ∧ ∀ sm : SemLoc sig, sm.isScoped .tc = false → s.sem ((c.tc : Thread nD τ), sm) = 0)
    (hY := read_done m)
    (hQ := fun _ h hs => ⟨fun c => (h c).2.2.1, sem_eq_zero hs fun c => (h c).2.2.2⟩)

end Cert.Proof

end
-- ==== Proof.Value.lean ====
/-
  The result against the reference: at the ideal values both are the sum of the two slices of the argument, column half
  by column half.
-/
module

public import proofs.«01_k».proof.Proof.Launch
public import proofs.«01_k».proof.Proof.Gen.Kernel
public import proofs.«01_k».proof.Proof.Gen.ReferenceIdeal.Run
public import proofs.«01_k».proof.Defs
public import Idealize.ShloMosaic.Lib.ValueLayout
public import Idealize.ShloMosaic.Lib.Quiescent
public import Idealize.ShloMosaic.Lib.Pointwise.Reduce

@[expose] public section

set_option maxRecDepth 65536

noncomputable section

namespace Cert.Proof

open Cert.KernelIdeal Cert.KernelIdeal.Gen
open Idealize.ShloMosaic
open Idealize.ShloMosaic.TcCoe
open Idealize.SL.Sem

section
variable {F : FTy → Type} [FloatOps F]
variable (m : (ℓ : Loc nD τ sig) → Buf (Elt F) ℓ)

/-! ## Elements of chunks -/

/-- Two multi-indices of a shape of rank two are equal if their coordinates are. -/
theorem idx2_ext {d : Fin 2 → ℕ} {x y : (⟨2, d⟩ : Shape).Idx} (h0 : (x 0).val = (y 0).val) (h1 : (x 1).val = (y 1).val) : x = y :=
  funext fun a => match a with
    | ⟨0, _⟩ => Fin.ext h0
    | ⟨1, _⟩ => Fin.ext h1

/-- An element of the argument, as an array of its literal shape. -/
def argAt (c : Dev nD) : (⟨3, ![1, 8192, 2048]⟩ : Shape).Idx → F .f32 := m ((c : Thread nD τ).loc main_arg0)

/-- A chunk of the argument holds its rows and columns of it. -/
theorem xval_apply (c : Dev nD) (r h : ℕ) (hr : r < 32) (hh : h < 2) (i : Fin 256) (j : Fin 1024) :
    xval m c r h (ix2 i j) = argAt m c (ix3 0 ⟨256 * r + i.val, by omega⟩ ⟨1024 * h + j.val, by omega⟩) := by
  show m ((c : Thread nD τ).loc main_arg0) ((Rect.unit (s := S1x8192x2048) (offX r h) S1x256x1024.size (offX_inb r h)).emb
    (Shape.reshapeEquiv _ (ix2 i j))) = _
  rw [show Shape.reshapeEquiv (s := S1x256x1024) (s' := S256x1024) squeezes_S1x256x1024_S256x1024.numel_eq (ix2 i j) = ix3 (0 : Fin 1) i j
    from ValueIdx.reshapeEquiv_ix2_1ab _ i j]
  refine congrArg (m ((c : Thread nD τ).loc main_arg0)) ?_
  refine Shape.idx3_ext ?_ ?_ ?_
  · rfl
  · show 256 * (r % 32) + 1 * i.val = 256 * r + i.val
    omega
  · show 1024 * (h % 2) + 1 * j.val = 1024 * h + j.val
    omega

/-- A chunk of the result holds its rows of it. -/
theorem read_oC_apply (c : Dev nD) (g : Buf (Elt F) ((c : Thread nD τ).loc main_v1)) (r : ℕ) (hr : r < 32) (i : Fin 256) (j : Fin 1024) :
    (oC r).view.read (Elt F) g (ix2 i j) = (g : (⟨2, ![8192, 1024]⟩ : Shape).Idx → F .bf16) (ix2 ⟨256 * r + i.val, by omega⟩ j) := by
  show g ((rowR (offR r) (offR_inb r)).emb (ix2 i j)) = _
  refine congrArg g (idx2_ext ?_ ?_)
  · show 256 * (r % 32) + 1 * i.val = 256 * r + i.val
    omega
  · show 0 + 1 * j.val = j.val
    omega

end

/-! ## At the ideal values -/

variable (m : (ℓ : Loc nD τ sig) → Buf (Elt Ideal) ℓ) (X : (⟨3, ![2, 8192, 2048]⟩ : Shape).Idx → EReal)

/-- The devices' arguments are the slices of one array, device `c`'s slice `c % 2`. -/
def Slices : Prop :=
  ∀ c : Dev nD, (m ((c : Thread nD τ).loc main_arg0) : (⟨3, ![1, 8192, 2048]⟩ : Shape).Idx → EReal)
    = Layout.blockN ⟨3, ![1, 8192, 2048]⟩ ⟨3, ![2, 8192, 2048]⟩ (Layout.meshBlock [2, 2] ![[1], [], []] c) X

theorem argAt_eq (hX : Slices m X) (c : Dev nD) (p : Fin 8192) (q : Fin 2048) :
    argAt m c (ix3 0 p q) = X (ix3 ⟨c.val % 2, Nat.mod_lt _ (by decide)⟩ p q) := by
  refine (congrFun (hX c) (ix3 0 p q)).trans ?_
  rw [Layout.blockN_apply]
  refine congrArg X (Shape.idx3_ext ?_ ?_ ?_)
  all_goals rw [Layout.TilesN.idx_val]
  · show ((c.val / 1 % 2) * 1 + 0) * 1 + 0 = c.val % 2
    omega
  · show 0 * 8192 + p.val = p.val
    omega
  · show 0 * 2048 + q.val = q.val
    omega

/-- The reference at an element: the sum of the two slices. -/
abbrev refValue : (⟨2, ![8192, 2048]⟩ : Shape).Idx → EReal :=
  truncf (F := Ideal) .bf16 (Host.reduceAdd (F := Ideal) (φ := .f32) X (constant Cert.ReferenceIdeal.S_ .f32 0x00000000#32)
    Cert.ReferenceIdeal.Gen.reducesTo_S2x8192x2048_S8192x2048_d0 Cert.ReferenceIdeal.Gen.h_S_) Cert.ReferenceIdeal.Gen.bitsLt_bf16_f32

theorem refValue_apply (p : Fin 8192) (q : Fin 2048) :
    refValue X (ix2 p q) = X (ix3 0 p q) + X (ix3 1 p q) := by
  show Ideal.hostReduceAdd Cert.ReferenceIdeal.Gen.reducesTo_S2x8192x2048_S8192x2048_d0 X (Ideal.ofBits .f32 0x00000000#32) (ix2 p q) = _
  rw [Ideal.hostReduceAdd_r3_a0, Ideal.ofBits_zero_f32, zero_add, Fin.sum_univ_two]
  rfl

theorem row_lt (c : Dev nD) (k : ℕ) (i : Fin 256) : 256 * rowIx c k + i.val < 8192 := by
  have := rowIx_lt c k; omega

/-- The kernel at an element: the device's slice and the other one. -/
theorem oval_apply (hX : Slices m X) (c : Dev nD) (k : ℕ) (i : Fin 256) (j : Fin 1024) :
    oval m c k (ix2 i j)
      = X (ix3 0 ⟨256 * rowIx c k + i.val, row_lt c k i⟩ ⟨1024 * (c.val % 2) + j.val, by omega⟩)
        + X (ix3 1 ⟨256 * rowIx c k + i.val, row_lt c k i⟩ ⟨1024 * (c.val % 2) + j.val, by omega⟩) := by
  have hr := rowIx_lt c k
  have hc : c.val % 2 < 2 := Nat.mod_lt _ (by decide)
  show xval m c (rowIx c k) (c.val % 2) (ix2 i j) + xval m (srcDev c k) (rowIx c k) (c.val % 2) (ix2 i j) = _
  rw [xval_apply m c _ _ hr hc, xval_apply m (srcDev c k) _ _ hr hc, argAt_eq m X hX, argAt_eq m X hX]
  have hs : (srcDev c k).val % 2 = 1 - c.val % 2 := by
    have := dev_lt c; unfold srcDev; split <;> simp only [peerY, peerX] <;> omega
  rcases Nat.mod_two_eq_zero_or_one c.val with h | h
  · have e : (⟨c.val % 2, Nat.mod_lt _ (by decide)⟩ : Fin 2) = 0 := Fin.ext h
    have e' : (⟨(srcDev c k).val % 2, Nat.mod_lt _ (by decide)⟩ : Fin 2) = 1 := Fin.ext (hs.trans (by rw [h]; rfl))
    rw [e, e']
  · have e : (⟨c.val % 2, Nat.mod_lt _ (by decide)⟩ : Fin 2) = 1 := Fin.ext h
    have e' : (⟨(srcDev c k).val % 2, Nat.mod_lt _ (by decide)⟩ : Fin 2) = 0 := Fin.ext (hs.trans (by rw [h]; rfl))
    rw [e, e', add_comm]

/-- A device's column half of the reference at an element. -/
theorem block_apply (c : Dev nD) (p : Fin 8192) (q : Fin 1024) :
    Layout.blockN ⟨2, ![8192, 1024]⟩ ⟨2, ![8192, 2048]⟩ (Layout.meshBlock [2, 2] ![[], [1]] c) (refValue X) (by decide) (ix2 p q)
      = X (ix3 0 p ⟨1024 * (c.val % 2) + q.val, by omega⟩) + X (ix3 1 p ⟨1024 * (c.val % 2) + q.val, by omega⟩) := by
  rw [Layout.blockN_apply, ← refValue_apply]
  refine congrArg (refValue X) (idx2_ext ?_ ?_)
  all_goals rw [Layout.TilesN.idx_val]
  · show 0 * 8192 + p.val = p.val
    omega
  · show ((c.val / 1 % 2) * 1 + 0) * 1024 + q.val = 1024 * (c.val % 2) + q.val
    omega

/-- A result whose chunks are the kernel's is the device's column half of the reference. -/
theorem result_eq (hX : Slices m X) (c : Dev nD) (g : Buf (Elt Ideal) ((c : Thread nD τ).loc main_v1)) (hg : Result c m g) :
    (g : (⟨2, ![8192, 1024]⟩ : Shape).Idx → EReal)
      = Layout.blockN ⟨2, ![8192, 1024]⟩ ⟨2, ![8192, 2048]⟩ (Layout.meshBlock [2, 2] ![[], [1]] c) (refValue X) := by
  have key : ∀ (p : Fin 8192) (q : Fin 1024), (g : (⟨2, ![8192, 1024]⟩ : Shape).Idx → EReal) (ix2 p q)
      = X (ix3 0 p ⟨1024 * (c.val % 2) + q.val, by omega⟩) + X (ix3 1 p ⟨1024 * (c.val % 2) + q.val, by omega⟩) := by
    intro p q
    obtain ⟨k, hk, e⟩ := rowIx_surj c (r := p.val / 256) (by omega)
    have hp : (⟨256 * rowIx c k + p.val % 256, by rw [e]; omega⟩ : Fin 8192) = p := Fin.ext (by show 256 * rowIx c k + p.val % 256 = p.val; rw [e]; omega)
    have h := congrFun (hg k hk) (ix2 ⟨p.val % 256, Nat.mod_lt _ (by decide)⟩ q)
    rw [read_oC_apply c g _ (rowIx_lt c k), oval_apply m X hX] at h
    rwa [hp] at h
  refine funext fun x : (⟨2, ![8192, 1024]⟩ : Shape).Idx => ?_
  have hx : x = ix2 (x 0) (x 1) := idx2_ext rfl rfl
  rw [hx]
  exact (key (x 0) (x 1)).trans (block_apply X c (x 0) (x 1)).symm

/-! ## The claims -/

/-- The kernel at the bits ends with its argument unchanged and its semaphores at zero; -/
theorem frame_kernel : Cert.quiescent_Kernel (hKernel := Cert.Kernel.Gen.facts) := fun m ρ _ =>
  (θ_run Cert.KernelIdeal.defs _ _).mono (fun _ h => ⟨fun c => (h.1 c).1, h.2⟩) (run_main (F := Bits) m ρ)
/-- and at the ideal values; -/
theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩) (run_main (F := Ideal) m ρ)

/-- the reference too. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

/-- The kernel's result is each device's column half of the reference's. -/
theorem algebraic : Cert.algebraic_KernelIdeal_ReferenceIdeal (hKernelIdeal := Cert.KernelIdeal.Gen.facts)
    (hReferenceIdeal := Cert.ReferenceIdeal.Gen.facts) := fun m ρ m' ρ' _ hX =>
  ⟨_, (θ_run Cert.KernelIdeal.defs _ _).mono
      (fun _ h c => ⟨result_eq m _ hX c _ (h.1 c).2, (h.1 c).1⟩) (run_main (F := Ideal) m ρ),
    (θ_run Cert.ReferenceIdeal.defs _ _).mono (fun _ h => h 0) (Cert.ReferenceIdeal.Value.run (F := Ideal) m' ρ')⟩

end Cert.Proof

end
-- ==== Proof.lean ====
/-
  The claims of `Cert.Claim`: the three frames, the idealization, and the kernel's result against the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
